-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32768x4096 : Shape := ⟨2, ![32768, 4096]⟩
abbrev S4096x128 : Shape := ⟨2, ![4096, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S1x64 : Shape := ⟨2, ![1, 64]⟩
abbrev S32768x64 : Shape := ⟨2, ![32768, 64]⟩
abbrev S8x256x4096 : Shape := ⟨3, ![8, 256, 4096]⟩
abbrev S8 : Shape := ⟨1, ![8]⟩
abbrev S2x256x64 : Shape := ⟨3, ![2, 256, 64]⟩
abbrev S2 : Shape := ⟨1, ![2]⟩
abbrev S1 : Shape := ⟨1, ![1]⟩
abbrev S_ : Shape := ⟨0, ![]⟩
abbrev S1x256x4096 : Shape := ⟨3, ![1, 256, 4096]⟩
abbrev S256x4096 : Shape := ⟨2, ![256, 4096]⟩
abbrev S256x128 : Shape := ⟨2, ![256, 128]⟩
abbrev S256x64 : Shape := ⟨2, ![256, 64]⟩
abbrev S256 : Shape := ⟨1, ![256]⟩
abbrev S256x1 : Shape := ⟨2, ![256, 1]⟩
abbrev S1x256x64 : Shape := ⟨3, ![1, 256, 64]⟩

abbrev nBuf : Space → Nat
  | .hbm => 8
  | .vmem => 6
  | .smem => 0
  | _ => 0

abbrev bufTy : (tb : Table) → Fin (tcTables nBuf tb) → BufTy
  | .hbm, ⟨0, _⟩ => ⟨S32768x4096, .f32⟩
  | .hbm, ⟨1, _⟩ => ⟨S4096x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S1x128, .f32⟩
  | .hbm, ⟨6, _⟩ => ⟨S1x64, .f32⟩
  | .hbm, ⟨7, _⟩ => ⟨S32768x64, .f32⟩
  | .local _ .vmem, ⟨0, _⟩ => ⟨S4096x128, .f32⟩
  | .local _ .vmem, ⟨1, _⟩ => ⟨S1x128, .f32⟩
  | .local _ .vmem, ⟨2, _⟩ => ⟨S128x64, .f32⟩
  | .local _ .vmem, ⟨3, _⟩ => ⟨S1x64, .f32⟩
  | .local _ .vmem, ⟨4, _⟩ => ⟨S8x256x4096, .f32⟩
  | .local _ .vmem, ⟨5, _⟩ => ⟨S2x256x64, .f32⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scoped0 : Ref sig .tc := ⟨.vmem, 4, rfl⟩
abbrev cc0_scoped2 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

def k0_off1 : Fin 1 → Nat :=
  let c0_i32_42_r0 : BitVec 32 := 0#32
  let c8_i32_r0 : BitVec 32 := 8#32
  let v45_r0 : BitVec 32 := Scalar.remui c0_i32_42_r0 c8_i32_r0
  ![v45_r0.toNat]
def k0_off2 : Fin 3 → Nat :=
  let c0_i32_42_r0 : BitVec 32 := 0#32
  let c8_i32_r0 : BitVec 32 := 8#32
  let v45_r0 : BitVec 32 := Scalar.remui c0_i32_42_r0 c8_i32_r0
  let c0_i32_43_r0 : BitVec 32 := 0#32
  let c0_i32_44_r0 : BitVec 32 := 0#32
  ![v45_r0.toNat, 0, 0]
def k0_cond1 : BitVec 1 :=
  let true_50_r0 : BitVec 1 := 1#1
  let true_3_r0 : BitVec 1 := 1#1
  let c1_i32_r0 : BitVec 32 := 1#32
  let c0_i32_4_r0 : BitVec 32 := 0#32
  let v6_r0 : BitVec 32 := Scalar.select true_3_r0 c1_i32_r0 c0_i32_4_r0
  let c128_i32_r0 : BitVec 32 := 128#32
  let v7_r0 : BitVec 1 := Scalar.cmpi .eq v6_r0 c128_i32_r0
  let c0_i32_5_r0 : BitVec 32 := 0#32
  let v8_r0 : BitVec 32 := Scalar.select v7_r0 c0_i32_5_r0 v6_r0
  let c0_i32_6_r0 : BitVec 32 := 0#32
  let v9_r0 : BitVec 32 := Scalar.addi v8_r0 c0_i32_6_r0
  let c0_i32_49_r0 : BitVec 32 := 0#32
  let v52_r0 : BitVec 1 := Scalar.cmpi .ne v9_r0 c0_i32_49_r0
  let v53_r0 : BitVec 1 := Scalar.andi true_50_r0 v52_r0
  let true_51_r0 : BitVec 1 := 1#1
  let v54_r0 : BitVec 1 := Scalar.andi v53_r0 true_51_r0
  let v55_r0 : BitVec 32 := Scalar.extui v54_r0
  let c0_i32_52_r0 : BitVec 32 := 0#32
  let v56_r0 : BitVec 1 := Scalar.cmpi .ne v55_r0 c0_i32_52_r0
  v56_r0

def k0_off3 : Fin 1 → Nat :=
  let c0_i32_47_r0 : BitVec 32 := 0#32
  let c1_i32_48_r0 : BitVec 32 := 1#32
  let v51_r0 : BitVec 32 := Scalar.addi c0_i32_47_r0 c1_i32_48_r0
  let c8_i32_135_r0 : BitVec 32 := 8#32
  let v153_r0 : BitVec 32 := Scalar.remui v51_r0 c8_i32_135_r0
  ![v153_r0.toNat]
def k0_off4 : Fin 3 → Nat :=
  let c0_i32_47_r0 : BitVec 32 := 0#32
  let c1_i32_48_r0 : BitVec 32 := 1#32
  let v51_r0 : BitVec 32 := Scalar.addi c0_i32_47_r0 c1_i32_48_r0
  let c8_i32_135_r0 : BitVec 32 := 8#32
  let v153_r0 : BitVec 32 := Scalar.remui v51_r0 c8_i32_135_r0
  let c0_i32_137_r0 : BitVec 32 := 0#32
  let c0_i32_138_r0 : BitVec 32 := 0#32
  ![v153_r0.toNat, 0, 0]
def k0_off5 : Fin 2 → Nat :=
  let c256_i32_136_r0 : BitVec 32 := 256#32
  let true_3_r0 : BitVec 1 := 1#1
  let c1_i32_r0 : BitVec 32 := 1#32
  let c0_i32_4_r0 : BitVec 32 := 0#32
  let v6_r0 : BitVec 32 := Scalar.select true_3_r0 c1_i32_r0 c0_i32_4_r0
  let c128_i32_r0 : BitVec 32 := 128#32
  let v7_r0 : BitVec 1 := Scalar.cmpi .eq v6_r0 c128_i32_r0
  let c0_i32_5_r0 : BitVec 32 := 0#32
  let v8_r0 : BitVec 32 := Scalar.select v7_r0 c0_i32_5_r0 v6_r0
  let c0_i32_6_r0 : BitVec 32 := 0#32
  let v9_r0 : BitVec 32 := Scalar.addi v8_r0 c0_i32_6_r0
  let v154_r0 : BitVec 32 := Scalar.muli c256_i32_136_r0 v9_r0
  let c0_i32_139_r0 : BitVec 32 := 0#32
  ![v154_r0.toNat, 0]
def k0_cond2 : BitVec 1 :=
  let true_54_r0 : BitVec 1 := 1#1
  let true_8_r0 : BitVec 1 := 1#1
  let true_3_r0 : BitVec 1 := 1#1
  let c1_i32_r0 : BitVec 32 := 1#32
  let c0_i32_4_r0 : BitVec 32 := 0#32
  let v6_r0 : BitVec 32 := Scalar.select true_3_r0 c1_i32_r0 c0_i32_4_r0
  let c128_i32_r0 : BitVec 32 := 128#32
  let v7_r0 : BitVec 1 := Scalar.cmpi .eq v6_r0 c128_i32_r0
  let c0_i32_5_r0 : BitVec 32 := 0#32
  let v8_r0 : BitVec 32 := Scalar.select v7_r0 c0_i32_5_r0 v6_r0
  let c1_i32_7_r0 : BitVec 32 := 1#32
  let v10_r0 : BitVec 32 := Scalar.addi v8_r0 c1_i32_7_r0
  let v11_r0 : BitVec 32 := Scalar.select true_8_r0 v10_r0 v8_r0
  let c128_i32_9_r0 : BitVec 32 := 128#32
  let v12_r0 : BitVec 1 := Scalar.cmpi .eq v11_r0 c128_i32_9_r0
  let c0_i32_10_r0 : BitVec 32 := 0#32
  let v13_r0 : BitVec 32 := Scalar.select v12_r0 c0_i32_10_r0 v11_r0
  let c0_i32_11_r0 : BitVec 32 := 0#32
  let v14_r0 : BitVec 32 := Scalar.addi v13_r0 c0_i32_11_r0
  let c0_i32_6_r0 : BitVec 32 := 0#32
  let v9_r0 : BitVec 32 := Scalar.addi v8_r0 c0_i32_6_r0
  let v59_r0 : BitVec 1 := Scalar.cmpi .ne v14_r0 v9_r0
  let v60_r0 : BitVec 1 := Scalar.andi true_54_r0 v59_r0
  let true_55_r0 : BitVec 1 := 1#1
  let v61_r0 : BitVec 1 := Scalar.andi v60_r0 true_55_r0
  let v62_r0 : BitVec 32 := Scalar.extui v61_r0
  let c0_i32_56_r0 : BitVec 32 := 0#32
  let v63_r0 : BitVec 1 := Scalar.cmpi .ne v62_r0 c0_i32_56_r0
  v63_r0

def k0_off6 : Fin 1 → Nat :=
  let true_50_r0 : BitVec 1 := 1#1
  let true_3_r0 : BitVec 1 := 1#1
  let c1_i32_r0 : BitVec 32 := 1#32
  let c0_i32_4_r0 : BitVec 32 := 0#32
  let v6_r0 : BitVec 32 := Scalar.select true_3_r0 c1_i32_r0 c0_i32_4_r0
  let c128_i32_r0 : BitVec 32 := 128#32
  let v7_r0 : BitVec 1 := Scalar.cmpi .eq v6_r0 c128_i32_r0
  let c0_i32_5_r0 : BitVec 32 := 0#32
  let v8_r0 : BitVec 32 := Scalar.select v7_r0 c0_i32_5_r0 v6_r0
  let c0_i32_6_r0 : BitVec 32 := 0#32
  let v9_r0 : BitVec 32 := Scalar.addi v8_r0 c0_i32_6_r0
  let c0_i32_49_r0 : BitVec 32 := 0#32
  let v52_r0 : BitVec 1 := Scalar.cmpi .ne v9_r0 c0_i32_49_r0
  let v53_r0 : BitVec 1 := Scalar.andi true_50_r0 v52_r0
  let c0_i32_47_r0 : BitVec 32 := 0#32
  let c1_i32_48_r0 : BitVec 32 := 1#32
  let v51_r0 : BitVec 32 := Scalar.addi c0_i32_47_r0 c1_i32_48_r0
  let c1_i32_53_r0 : BitVec 32 := 1#32
  let v57_r0 : BitVec 32 := Scalar.addi v51_r0 c1_i32_53_r0
  let v58_r0 : BitVec 32 := Scalar.select v53_r0 v57_r0 v51_r0
  let c8_i32_135_r0 : BitVec 32 := 8#32
  let v153_r0 : BitVec 32 := Scalar.remui v58_r0 c8_i32_135_r0
  ![v153_r0.toNat]
def k0_off7 : Fin 3 → Nat :=
  let true_50_r0 : BitVec 1 := 1#1
  let true_3_r0 : BitVec 1 := 1#1
  let c1_i32_r0 : BitVec 32 := 1#32
  let c0_i32_4_r0 : BitVec 32 := 0#32
  let v6_r0 : BitVec 32 := Scalar.select true_3_r0 c1_i32_r0 c0_i32_4_r0
  let c128_i32_r0 : BitVec 32 := 128#32
  let v7_r0 : BitVec 1 := Scalar.cmpi .eq v6_r0 c128_i32_r0
  let c0_i32_5_r0 : BitVec 32 := 0#32
  let v8_r0 : BitVec 32 := Scalar.select v7_r0 c0_i32_5_r0 v6_r0
  let c0_i32_6_r0 : BitVec 32 := 0#32
  let v9_r0 : BitVec 32 := Scalar.addi v8_r0 c0_i32_6_r0
  let c0_i32_49_r0 : BitVec 32 := 0#32
  let v52_r0 : BitVec 1 := Scalar.cmpi .ne v9_r0 c0_i32_49_r0
  let v53_r0 : BitVec 1 := Scalar.andi true_50_r0 v52_r0
  let c0_i32_47_r0 : BitVec 32 := 0#32
  let c1_i32_48_r0 : BitVec 32 := 1#32
  let v51_r0 : BitVec 32 := Scalar.addi c0_i32_47_r0 c1_i32_48_r0
  let c1_i32_53_r0 : BitVec 32 := 1#32
  let v57_r0 : BitVec 32 := Scalar.addi v51_r0 c1_i32_53_r0
  let v58_r0 : BitVec 32 := Scalar.select v53_r0 v57_r0 v51_r0
  let c8_i32_135_r0 : BitVec 32 := 8#32
  let v153_r0 : BitVec 32 := Scalar.remui v58_r0 c8_i32_135_r0
  let c0_i32_137_r0 : BitVec 32 := 0#32
  let c0_i32_138_r0 : BitVec 32 := 0#32
  ![v153_r0.toNat, 0, 0]
def k0_off8 : Fin 2 → Nat :=
  let c256_i32_136_r0 : BitVec 32 := 256#32
  let true_8_r0 : BitVec 1 := 1#1
  let true_3_r0 : BitVec 1 := 1#1
  let c1_i32_r0 : BitVec 32 := 1#32
  let c0_i32_4_r0 : BitVec 32 := 0#32
  let v6_r0 : BitVec 32 := Scalar.select true_3_r0 c1_i32_r0 c0_i32_4_r0
  let c128_i32_r0 : BitVec 32 := 128#32
  let v7_r0 : BitVec 1 := Scalar.cmpi .eq v6_r0 c128_i32_r0
  let c0_i32_5_r0 : BitVec 32 := 0#32
  let v8_r0 : BitVec 32 := Scalar.select v7_r0 c0_i32_5_r0 v6_r0
  let c1_i32_7_r0 : BitVec 32 := 1#32
  let v10_r0 : BitVec 32 := Scalar.addi v8_r0 c1_i32_7_r0
  let v11_r0 : BitVec 32 := Scalar.select true_8_r0 v10_r0 v8_r0
  let c128_i32_9_r0 : BitVec 32 := 128#32
  let v12_r0 : BitVec 1 := Scalar.cmpi .eq v11_r0 c128_i32_9_r0
  let c0_i32_10_r0 : BitVec 32 := 0#32
  let v13_r0 : BitVec 32 := Scalar.select v12_r0 c0_i32_10_r0 v11_r0
  let c0_i32_11_r0 : BitVec 32 := 0#32
  let v14_r0 : BitVec 32 := Scalar.addi v13_r0 c0_i32_11_r0
  let v154_r0 : BitVec 32 := Scalar.muli c256_i32_136_r0 v14_r0
  let c0_i32_139_r0 : BitVec 32 := 0#32
  ![v154_r0.toNat, 0]
def k0_cond3 : BitVec 1 :=
  let true_58_r0 : BitVec 1 := 1#1
  let true_13_r0 : BitVec 1 := 1#1
  let true_8_r0 : BitVec 1 := 1#1
  let true_3_r0 : BitVec 1 := 1#1
  let c1_i32_r0 : BitVec 32 := 1#32
  let c0_i32_4_r0 : BitVec 32 := 0#32
  let v6_r0 : BitVec 32 := Scalar.select true_3_r0 c1_i32_r0 c0_i32_4_r0
  let c128_i32_r0 : BitVec 32 := 128#32
  let v7_r0 : BitVec 1 := Scalar.cmpi .eq v6_r0 c128_i32_r0
  let c0_i32_5_r0 : BitVec 32 := 0#32
  let v8_r0 : BitVec 32 := Scalar.select v7_r0 c0_i32_5_r0 v6_r0
  let c1_i32_7_r0 : BitVec 32 := 1#32
  let v10_r0 : BitVec 32 := Scalar.addi v8_r0 c1_i32_7_r0
  let v11_r0 : BitVec 32 := Scalar.select true_8_r0 v10_r0 v8_r0
  let c128_i32_9_r0 : BitVec 32 := 128#32
  let v12_r0 : BitVec 1 := Scalar.cmpi .eq v11_r0 c128_i32_9_r0
  let c0_i32_10_r0 : BitVec 32 := 0#32
  let v13_r0 : BitVec 32 := Scalar.select v12_r0 c0_i32_10_r0 v11_r0
  let c1_i32_12_r0 : BitVec 32 := 1#32
  let v15_r0 : BitVec 32 := Scalar.addi v13_r0 c1_i32_12_r0
  let v16_r0 : BitVec 32 := Scalar.select true_13_r0 v15_r0 v13_r0
  let c128_i32_14_r0 : BitVec 32 := 128#32
  let v17_r0 : BitVec 1 := Scalar.cmpi .eq v16_r0 c128_i32_14_r0
  let c0_i32_15_r0 : BitVec 32 := 0#32
  let v18_r0 : BitVec 32 := Scalar.select v17_r0 c0_i32_15_r0 v16_r0
  let c0_i32_16_r0 : BitVec 32 := 0#32
  let v19_r0 : BitVec 32 := Scalar.addi v18_r0 c0_i32_16_r0
  let c0_i32_11_r0 : BitVec 32 := 0#32
  let v14_r0 : BitVec 32 := Scalar.addi v13_r0 c0_i32_11_r0
  let v66_r0 : BitVec 1 := Scalar.cmpi .ne v19_r0 v14_r0
  let v67_r0 : BitVec 1 := Scalar.andi true_58_r0 v66_r0
  let true_59_r0 : BitVec 1 := 1#1
  let v68_r0 : BitVec 1 := Scalar.andi v67_r0 true_59_r0
  let v69_r0 : BitVec 32 := Scalar.extui v68_r0
  let c0_i32_60_r0 : BitVec 32 := 0#32
  let v70_r0 : BitVec 1 := Scalar.cmpi .ne v69_r0 c0_i32_60_r0
  v70_r0

def k0_off9 : Fin 1 → Nat :=
  let true_54_r0 : BitVec 1 := 1#1
  let true_8_r0 : BitVec 1 := 1#1
  let true_3_r0 : BitVec 1 := 1#1
  let c1_i32_r0 : BitVec 32 := 1#32
  let c0_i32_4_r0 : BitVec 32 := 0#32
  let v6_r0 : BitVec 32 := Scalar.select true_3_r0 c1_i32_r0 c0_i32_4_r0
  let c128_i32_r0 : BitVec 32 := 128#32
  let v7_r0 : BitVec 1 := Scalar.cmpi .eq v6_r0 c128_i32_r0
  let c0_i32_5_r0 : BitVec 32 := 0#32
  let v8_r0 : BitVec 32 := Scalar.select v7_r0 c0_i32_5_r0 v6_r0
  let c1_i32_7_r0 : BitVec 32 := 1#32
  let v10_r0 : BitVec 32 := Scalar.addi v8_r0 c1_i32_7_r0
  let v11_r0 : BitVec 32 := Scalar.select true_8_r0 v10_r0 v8_r0
  let c128_i32_9_r0 : BitVec 32 := 128#32
  let v12_r0 : BitVec 1 := Scalar.cmpi .eq v11_r0 c128_i32_9_r0
  let c0_i32_10_r0 : BitVec 32 := 0#32
  let v13_r0 : BitVec 32 := Scalar.select v12_r0 c0_i32_10_r0 v11_r0
  let c0_i32_11_r0 : BitVec 32 := 0#32
  let v14_r0 : BitVec 32 := Scalar.addi v13_r0 c0_i32_11_r0
  let c0_i32_6_r0 : BitVec 32 := 0#32
  let v9_r0 : BitVec 32 := Scalar.addi v8_r0 c0_i32_6_r0
  let v59_r0 : BitVec 1 := Scalar.cmpi .ne v14_r0 v9_r0
  let v60_r0 : BitVec 1 := Scalar.andi true_54_r0 v59_r0
  let true_50_r0 : BitVec 1 := 1#1
  let c0_i32_49_r0 : BitVec 32 := 0#32
  let v52_r0 : BitVec 1 := Scalar.cmpi .ne v9_r0 c0_i32_49_r0
  let v53_r0 : BitVec 1 := Scalar.andi true_50_r0 v52_r0
  let c0_i32_47_r0 : BitVec 32 := 0#32
  let c1_i32_48_r0 : BitVec 32 := 1#32
  let v51_r0 : BitVec 32 := Scalar.addi c0_i32_47_r0 c1_i32_48_r0
  let c1_i32_53_r0 : BitVec 32 := 1#32
  let v57_r0 : BitVec 32 := Scalar.addi v51_r0 c1_i32_53_r0
  let v58_r0 : BitVec 32 := Scalar.select v53_r0 v57_r0 v51_r0
  let c1_i32_57_r0 : BitVec 32 := 1#32
  let v64_r0 : BitVec 32 := Scalar.addi v58_r0 c1_i32_57_r0
  let v65_r0 : BitVec 32 := Scalar.select v60_r0 v64_r0 v58_r0
  let c8_i32_135_r0 : BitVec 32 := 8#32
  let v153_r0 : BitVec 32 := Scalar.remui v65_r0 c8_i32_135_r0
  ![v153_r0.toNat]
def k0_off10 : Fin 3 → Nat :=
  let true_54_r0 : BitVec 1 := 1#1
  let true_8_r0 : BitVec 1 := 1#1
  let true_3_r0 : BitVec 1 := 1#1
  let c1_i32_r0 : BitVec 32 := 1#32
  let c0_i32_4_r0 : BitVec 32 := 0#32
  let v6_r0 : BitVec 32 := Scalar.select true_3_r0 c1_i32_r0 c0_i32_4_r0
  let c128_i32_r0 : BitVec 32 := 128#32
  let v7_r0 : BitVec 1 := Scalar.cmpi .eq v6_r0 c128_i32_r0
  let c0_i32_5_r0 : BitVec 32 := 0#32
  let v8_r0 : BitVec 32 := Scalar.select v7_r0 c0_i32_5_r0 v6_r0
  let c1_i32_7_r0 : BitVec 32 := 1#32
  let v10_r0 : BitVec 32 := Scalar.addi v8_r0 c1_i32_7_r0
  let v11_r0 : BitVec 32 := Scalar.select true_8_r0 v10_r0 v8_r0
  let c128_i32_9_r0 : BitVec 32 := 128#32
  let v12_r0 : BitVec 1 := Scalar.cmpi .eq v11_r0 c128_i32_9_r0
  let c0_i32_10_r0 : BitVec 32 := 0#32
  let v13_r0 : BitVec 32 := Scalar.select v12_r0 c0_i32_10_r0 v11_r0
  let c0_i32_11_r0 : BitVec 32 := 0#32
  let v14_r0 : BitVec 32 := Scalar.addi v13_r0 c0_i32_11_r0
  let c0_i32_6_r0 : BitVec 32 := 0#32
  let v9_r0 : BitVec 32 := Scalar.addi v8_r0 c0_i32_6_r0
  let v59_r0 : BitVec 1 := Scalar.cmpi .ne v14_r0 v9_r0
  let v60_r0 : BitVec 1 := Scalar.andi true_54_r0 v59_r0
  let true_50_r0 : BitVec 1 := 1#1
  let c0_i32_49_r0 : BitVec 32 := 0#32
  let v52_r0 : BitVec 1 := Scalar.cmpi .ne v9_r0 c0_i32_49_r0
  let v53_r0 : BitVec 1 := Scalar.andi true_50_r0 v52_r0
  let c0_i32_47_r0 : BitVec 32 := 0#32
  let c1_i32_48_r0 : BitVec 32 := 1#32
  let v51_r0 : BitVec 32 := Scalar.addi c0_i32_47_r0 c1_i32_48_r0
  let c1_i32_53_r0 : BitVec 32 := 1#32
  let v57_r0 : BitVec 32 := Scalar.addi v51_r0 c1_i32_53_r0
  let v58_r0 : BitVec 32 := Scalar.select v53_r0 v57_r0 v51_r0
  let c1_i32_57_r0 : BitVec 32 := 1#32
  let v64_r0 : BitVec 32 := Scalar.addi v58_r0 c1_i32_57_r0
  let v65_r0 : BitVec 32 := Scalar.select v60_r0 v64_r0 v58_r0
  let c8_i32_135_r0 : BitVec 32 := 8#32
  let v153_r0 : BitVec 32 := Scalar.remui v65_r0 c8_i32_135_r0
  let c0_i32_137_r0 : BitVec 32 := 0#32
  let c0_i32_138_r0 : BitVec 32 := 0#32
  ![v153_r0.toNat, 0, 0]
def k0_off11 : Fin 2 → Nat :=
  let c256_i32_136_r0 : BitVec 32 := 256#32
  let true_13_r0 : BitVec 1 := 1#1
  let true_8_r0 : BitVec 1 := 1#1
  let true_3_r0 : BitVec 1 := 1#1
  let c1_i32_r0 : BitVec 32 := 1#32
  let c0_i32_4_r0 : BitVec 32 := 0#32
  let v6_r0 : BitVec 32 := Scalar.select true_3_r0 c1_i32_r0 c0_i32_4_r0
  let c128_i32_r0 : BitVec 32 := 128#32
  let v7_r0 : BitVec 1 := Scalar.cmpi .eq v6_r0 c128_i32_r0
  let c0_i32_5_r0 : BitVec 32 := 0#32
  let v8_r0 : BitVec 32 := Scalar.select v7_r0 c0_i32_5_r0 v6_r0
  let c1_i32_7_r0 : BitVec 32 := 1#32
  let v10_r0 : BitVec 32 := Scalar.addi v8_r0 c1_i32_7_r0
  let v11_r0 : BitVec 32 := Scalar.select true_8_r0 v10_r0 v8_r0
  let c128_i32_9_r0 : BitVec 32 := 128#32
  let v12_r0 : BitVec 1 := Scalar.cmpi .eq v11_r0 c128_i32_9_r0
  let c0_i32_10_r0 : BitVec 32 := 0#32
  let v13_r0 : BitVec 32 := Scalar.select v12_r0 c0_i32_10_r0 v11_r0
  let c1_i32_12_r0 : BitVec 32 := 1#32
  let v15_r0 : BitVec 32 := Scalar.addi v13_r0 c1_i32_12_r0
  let v16_r0 : BitVec 32 := Scalar.select true_13_r0 v15_r0 v13_r0
  let c128_i32_14_r0 : BitVec 32 := 128#32
  let v17_r0 : BitVec 1 := Scalar.cmpi .eq v16_r0 c128_i32_14_r0
  let c0_i32_15_r0 : BitVec 32 := 0#32
  let v18_r0 : BitVec 32 := Scalar.select v17_r0 c0_i32_15_r0 v16_r0
  let c0_i32_16_r0 : BitVec 32 := 0#32
  let v19_r0 : BitVec 32 := Scalar.addi v18_r0 c0_i32_16_r0
  let v154_r0 : BitVec 32 := Scalar.muli c256_i32_136_r0 v19_r0
  let c0_i32_139_r0 : BitVec 32 := 0#32
  ![v154_r0.toNat, 0]
def k0_cond4 : BitVec 1 :=
  let true_62_r0 : BitVec 1 := 1#1
  let true_18_r0 : BitVec 1 := 1#1
  let true_13_r0 : BitVec 1 := 1#1
  let true_8_r0 : BitVec 1 := 1#1
  let true_3_r0 : BitVec 1 := 1#1
  let c1_i32_r0 : BitVec 32 := 1#32
  let c0_i32_4_r0 : BitVec 32 := 0#32
  let v6_r0 : BitVec 32 := Scalar.select true_3_r0 c1_i32_r0 c0_i32_4_r0
  let c128_i32_r0 : BitVec 32 := 128#32
  let v7_r0 : BitVec 1 := Scalar.cmpi .eq v6_r0 c128_i32_r0
  let c0_i32_5_r0 : BitVec 32 := 0#32
  let v8_r0 : BitVec 32 := Scalar.select v7_r0 c0_i32_5_r0 v6_r0
  let c1_i32_7_r0 : BitVec 32 := 1#32
  let v10_r0 : BitVec 32 := Scalar.addi v8_r0 c1_i32_7_r0
  let v11_r0 : BitVec 32 := Scalar.select true_8_r0 v10_r0 v8_r0
  let c128_i32_9_r0 : BitVec 32 := 128#32
  let v12_r0 : BitVec 1 := Scalar.cmpi .eq v11_r0 c128_i32_9_r0
  let c0_i32_10_r0 : BitVec 32 := 0#32
  let v13_r0 : BitVec 32 := Scalar.select v12_r0 c0_i32_10_r0 v11_r0
  let c1_i32_12_r0 : BitVec 32 := 1#32
  let v15_r0 : BitVec 32 := Scalar.addi v13_r0 c1_i32_12_r0
  let v16_r0 : BitVec 32 := Scalar.select true_13_r0 v15_r0 v13_r0
  let c128_i32_14_r0 : BitVec 32 := 128#32
  let v17_r0 : BitVec 1 := Scalar.cmpi .eq v16_r0 c128_i32_14_r0
  let c0_i32_15_r0 : BitVec 32 := 0#32
  let v18_r0 : BitVec 32 := Scalar.select v17_r0 c0_i32_15_r0 v16_r0
  let c1_i32_17_r0 : BitVec 32 := 1#32
  let v20_r0 : BitVec 32 := Scalar.addi v18_r0 c1_i32_17_r0
  let v21_r0 : BitVec 32 := Scalar.select true_18_r0 v20_r0 v18_r0
  let c128_i32_19_r0 : BitVec 32 := 128#32
  let v22_r0 : BitVec 1 := Scalar.cmpi .eq v21_r0 c128_i32_19_r0
  let c0_i32_20_r0 : BitVec 32 := 0#32
  let v23_r0 : BitVec 32 := Scalar.select v22_r0 c0_i32_20_r0 v21_r0
  let c0_i32_21_r0 : BitVec 32 := 0#32
  let v24_r0 : BitVec 32 := Scalar.addi v23_r0 c0_i32_21_r0
  let c0_i32_16_r0 : BitVec 32 := 0#32
  let v19_r0 : BitVec 32 := Scalar.addi v18_r0 c0_i32_16_r0
  let v73_r0 : BitVec 1 := Scalar.cmpi .ne v24_r0 v19_r0
  let v74_r0 : BitVec 1 := Scalar.andi true_62_r0 v73_r0
  let true_63_r0 : BitVec 1 := 1#1
  let v75_r0 : BitVec 1 := Scalar.andi v74_r0 true_63_r0
  let v76_r0 : BitVec 32 := Scalar.extui v75_r0
  let c0_i32_64_r0 : BitVec 32 := 0#32
  let v77_r0 : BitVec 1 := Scalar.cmpi .ne v76_r0 c0_i32_64_r0
  v77_r0

def k0_off12 : Fin 1 → Nat :=
  let true_58_r0 : BitVec 1 := 1#1
  let true_13_r0 : BitVec 1 := 1#1
  let true_8_r0 : BitVec 1 := 1#1
  let true_3_r0 : BitVec 1 := 1#1
  let c1_i32_r0 : BitVec 32 := 1#32
  let c0_i32_4_r0 : BitVec 32 := 0#32
  let v6_r0 : BitVec 32 := Scalar.select true_3_r0 c1_i32_r0 c0_i32_4_r0
  let c128_i32_r0 : BitVec 32 := 128#32
  let v7_r0 : BitVec 1 := Scalar.cmpi .eq v6_r0 c128_i32_r0
  let c0_i32_5_r0 : BitVec 32 := 0#32
  let v8_r0 : BitVec 32 := Scalar.select v7_r0 c0_i32_5_r0 v6_r0
  let c1_i32_7_r0 : BitVec 32 := 1#32
  let v10_r0 : BitVec 32 := Scalar.addi v8_r0 c1_i32_7_r0
  let v11_r0 : BitVec 32 := Scalar.select true_8_r0 v10_r0 v8_r0
  let c128_i32_9_r0 : BitVec 32 := 128#32
  let v12_r0 : BitVec 1 := Scalar.cmpi .eq v11_r0 c128_i32_9_r0
  let c0_i32_10_r0 : BitVec 32 := 0#32
  let v13_r0 : BitVec 32 := Scalar.select v12_r0 c0_i32_10_r0 v11_r0
  let c1_i32_12_r0 : BitVec 32 := 1#32
  let v15_r0 : BitVec 32 := Scalar.addi v13_r0 c1_i32_12_r0
  let v16_r0 : BitVec 32 := Scalar.select true_13_r0 v15_r0 v13_r0
  let c128_i32_14_r0 : BitVec 32 := 128#32
  let v17_r0 : BitVec 1 := Scalar.cmpi .eq v16_r0 c128_i32_14_r0
  let c0_i32_15_r0 : BitVec 32 := 0#32
  let v18_r0 : BitVec 32 := Scalar.select v17_r0 c0_i32_15_r0 v16_r0
  let c0_i32_16_r0 : BitVec 32 := 0#32
  let v19_r0 : BitVec 32 := Scalar.addi v18_r0 c0_i32_16_r0
  let c0_i32_11_r0 : BitVec 32 := 0#32
  let v14_r0 : BitVec 32 := Scalar.addi v13_r0 c0_i32_11_r0
  let v66_r0 : BitVec 1 := Scalar.cmpi .ne v19_r0 v14_r0
  let v67_r0 : BitVec 1 := Scalar.andi true_58_r0 v66_r0
  let true_54_r0 : BitVec 1 := 1#1
  let c0_i32_6_r0 : BitVec 32 := 0#32
  let v9_r0 : BitVec 32 := Scalar.addi v8_r0 c0_i32_6_r0
  let v59_r0 : BitVec 1 := Scalar.cmpi .ne v14_r0 v9_r0
  let v60_r0 : BitVec 1 := Scalar.andi true_54_r0 v59_r0
  let true_50_r0 : BitVec 1 := 1#1
  let c0_i32_49_r0 : BitVec 32 := 0#32
  let v52_r0 : BitVec 1 := Scalar.cmpi .ne v9_r0 c0_i32_49_r0
  let v53_r0 : BitVec 1 := Scalar.andi true_50_r0 v52_r0
  let c0_i32_47_r0 : BitVec 32 := 0#32
  let c1_i32_48_r0 : BitVec 32 := 1#32
  let v51_r0 : BitVec 32 := Scalar.addi c0_i32_47_r0 c1_i32_48_r0
  let c1_i32_53_r0 : BitVec 32 := 1#32
  let v57_r0 : BitVec 32 := Scalar.addi v51_r0 c1_i32_53_r0
  let v58_r0 : BitVec 32 := Scalar.select v53_r0 v57_r0 v51_r0
  let c1_i32_57_r0 : BitVec 32 := 1#32
  let v64_r0 : BitVec 32 := Scalar.addi v58_r0 c1_i32_57_r0
  let v65_r0 : BitVec 32 := Scalar.select v60_r0 v64_r0 v58_r0
  let c1_i32_61_r0 : BitVec 32 := 1#32
  let v71_r0 : BitVec 32 := Scalar.addi v65_r0 c1_i32_61_r0
  let v72_r0 : BitVec 32 := Scalar.select v67_r0 v71_r0 v65_r0
  let c8_i32_135_r0 : BitVec 32 := 8#32
  let v153_r0 : BitVec 32 := Scalar.remui v72_r0 c8_i32_135_r0
  ![v153_r0.toNat]
def k0_off13 : Fin 3 → Nat :=
  let true_58_r0 : BitVec 1 := 1#1
  let true_13_r0 : BitVec 1 := 1#1
  let true_8_r0 : BitVec 1 := 1#1
  let true_3_r0 : BitVec 1 := 1#1
  let c1_i32_r0 : BitVec 32 := 1#32
  let c0_i32_4_r0 : BitVec 32 := 0#32
  let v6_r0 : BitVec 32 := Scalar.select true_3_r0 c1_i32_r0 c0_i32_4_r0
  let c128_i32_r0 : BitVec 32 := 128#32
  let v7_r0 : BitVec 1 := Scalar.cmpi .eq v6_r0 c128_i32_r0
  let c0_i32_5_r0 : BitVec 32 := 0#32
  let v8_r0 : BitVec 32 := Scalar.select v7_r0 c0_i32_5_r0 v6_r0
  let c1_i32_7_r0 : BitVec 32 := 1#32
  let v10_r0 : BitVec 32 := Scalar.addi v8_r0 c1_i32_7_r0
  let v11_r0 : BitVec 32 := Scalar.select true_8_r0 v10_r0 v8_r0
  let c128_i32_9_r0 : BitVec 32 := 128#32
  let v12_r0 : BitVec 1 := Scalar.cmpi .eq v11_r0 c128_i32_9_r0
  let c0_i32_10_r0 : BitVec 32 := 0#32
  let v13_r0 : BitVec 32 := Scalar.select v12_r0 c0_i32_10_r0 v11_r0
  let c1_i32_12_r0 : BitVec 32 := 1#32
  let v15_r0 : BitVec 32 := Scalar.addi v13_r0 c1_i32_12_r0
  let v16_r0 : BitVec 32 := Scalar.select true_13_r0 v15_r0 v13_r0
  let c128_i32_14_r0 : BitVec 32 := 128#32
  let v17_r0 : BitVec 1 := Scalar.cmpi .eq v16_r0 c128_i32_14_r0
  let c0_i32_15_r0 : BitVec 32 := 0#32
  let v18_r0 : BitVec 32 := Scalar.select v17_r0 c0_i32_15_r0 v16_r0
  let c0_i32_16_r0 : BitVec 32 := 0#32
  let v19_r0 : BitVec 32 := Scalar.addi v18_r0 c0_i32_16_r0
  let c0_i32_11_r0 : BitVec 32 := 0#32
  let v14_r0 : BitVec 32 := Scalar.addi v13_r0 c0_i32_11_r0
  let v66_r0 : BitVec 1 := Scalar.cmpi .ne v19_r0 v14_r0
  let v67_r0 : BitVec 1 := Scalar.andi true_58_r0 v66_r0
  let true_54_r0 : BitVec 1 := 1#1
  let c0_i32_6_r0 : BitVec 32 := 0#32
  let v9_r0 : BitVec 32 := Scalar.addi v8_r0 c0_i32_6_r0
  let v59_r0 : BitVec 1 := Scalar.cmpi .ne v14_r0 v9_r0
  let v60_r0 : BitVec 1 := Scalar.andi true_54_r0 v59_r0
  let true_50_r0 : BitVec 1 := 1#1
  let c0_i32_49_r0 : BitVec 32 := 0#32
  let v52_r0 : BitVec 1 := Scalar.cmpi .ne v9_r0 c0_i32_49_r0
  let v53_r0 : BitVec 1 := Scalar.andi true_50_r0 v52_r0
  let c0_i32_47_r0 : BitVec 32 := 0#32
  let c1_i32_48_r0 : BitVec 32 := 1#32
  let v51_r0 : BitVec 32 := Scalar.addi c0_i32_47_r0 c1_i32_48_r0
  let c1_i32_53_r0 : BitVec 32 := 1#32
  let v57_r0 : BitVec 32 := Scalar.addi v51_r0 c1_i32_53_r0
  let v58_r0 : BitVec 32 := Scalar.select v53_r0 v57_r0 v51_r0
  let c1_i32_57_r0 : BitVec 32 := 1#32
  let v64_r0 : BitVec 32 := Scalar.addi v58_r0 c1_i32_57_r0
  let v65_r0 : BitVec 32 := Scalar.select v60_r0 v64_r0 v58_r0
  let c1_i32_61_r0 : BitVec 32 := 1#32
  let v71_r0 : BitVec 32 := Scalar.addi v65_r0 c1_i32_61_r0
  let v72_r0 : BitVec 32 := Scalar.select v67_r0 v71_r0 v65_r0
  let c8_i32_135_r0 : BitVec 32 := 8#32
  let v153_r0 : BitVec 32 := Scalar.remui v72_r0 c8_i32_135_r0
  let c0_i32_137_r0 : BitVec 32 := 0#32
  let c0_i32_138_r0 : BitVec 32 := 0#32
  ![v153_r0.toNat, 0, 0]
def k0_off14 : Fin 2 → Nat :=
  let c256_i32_136_r0 : BitVec 32 := 256#32
  let true_18_r0 : BitVec 1 := 1#1
  let true_13_r0 : BitVec 1 := 1#1
  let true_8_r0 : BitVec 1 := 1#1
  let true_3_r0 : BitVec 1 := 1#1
  let c1_i32_r0 : BitVec 32 := 1#32
  let c0_i32_4_r0 : BitVec 32 := 0#32
  let v6_r0 : BitVec 32 := Scalar.select true_3_r0 c1_i32_r0 c0_i32_4_r0
  let c128_i32_r0 : BitVec 32 := 128#32
  let v7_r0 : BitVec 1 := Scalar.cmpi .eq v6_r0 c128_i32_r0
  let c0_i32_5_r0 : BitVec 32 := 0#32
  let v8_r0 : BitVec 32 := Scalar.select v7_r0 c0_i32_5_r0 v6_r0
  let c1_i32_7_r0 : BitVec 32 := 1#32
  let v10_r0 : BitVec 32 := Scalar.addi v8_r0 c1_i32_7_r0
  let v11_r0 : BitVec 32 := Scalar.select true_8_r0 v10_r0 v8_r0
  let c128_i32_9_r0 : BitVec 32 := 128#32
  let v12_r0 : BitVec 1 := Scalar.cmpi .eq v11_r0 c128_i32_9_r0
  let c0_i32_10_r0 : BitVec 32 := 0#32
  let v13_r0 : BitVec 32 := Scalar.select v12_r0 c0_i32_10_r0 v11_r0
  let c1_i32_12_r0 : BitVec 32 := 1#32
  let v15_r0 : BitVec 32 := Scalar.addi v13_r0 c1_i32_12_r0
  let v16_r0 : BitVec 32 := Scalar.select true_13_r0 v15_r0 v13_r0
  let c128_i32_14_r0 : BitVec 32 := 128#32
  let v17_r0 : BitVec 1 := Scalar.cmpi .eq v16_r0 c128_i32_14_r0
  let c0_i32_15_r0 : BitVec 32 := 0#32
  let v18_r0 : BitVec 32 := Scalar.select v17_r0 c0_i32_15_r0 v16_r0
  let c1_i32_17_r0 : BitVec 32 := 1#32
  let v20_r0 : BitVec 32 := Scalar.addi v18_r0 c1_i32_17_r0
  let v21_r0 : BitVec 32 := Scalar.select true_18_r0 v20_r0 v18_r0
  let c128_i32_19_r0 : BitVec 32 := 128#32
  let v22_r0 : BitVec 1 := Scalar.cmpi .eq v21_r0 c128_i32_19_r0
  let c0_i32_20_r0 : BitVec 32 := 0#32
  let v23_r0 : BitVec 32 := Scalar.select v22_r0 c0_i32_20_r0 v21_r0
  let c0_i32_21_r0 : BitVec 32 := 0#32
  let v24_r0 : BitVec 32 := Scalar.addi v23_r0 c0_i32_21_r0
  let v154_r0 : BitVec 32 := Scalar.muli c256_i32_136_r0 v24_r0
  let c0_i32_139_r0 : BitVec 32 := 0#32
  ![v154_r0.toNat, 0]
def k0_cond5 : BitVec 1 :=
  let true_66_r0 : BitVec 1 := 1#1
  let true_23_r0 : BitVec 1 := 1#1
  let true_18_r0 : BitVec 1 := 1#1
  let true_13_r0 : BitVec 1 := 1#1
  let true_8_r0 : BitVec 1 := 1#1
  let true_3_r0 : BitVec 1 := 1#1
  let c1_i32_r0 : BitVec 32 := 1#32
  let c0_i32_4_r0 : BitVec 32 := 0#32
  let v6_r0 : BitVec 32 := Scalar.select true_3_r0 c1_i32_r0 c0_i32_4_r0
  let c128_i32_r0 : BitVec 32 := 128#32
  let v7_r0 : BitVec 1 := Scalar.cmpi .eq v6_r0 c128_i32_r0
  let c0_i32_5_r0 : BitVec 32 := 0#32
  let v8_r0 : BitVec 32 := Scalar.select v7_r0 c0_i32_5_r0 v6_r0
  let c1_i32_7_r0 : BitVec 32 := 1#32
  let v10_r0 : BitVec 32 := Scalar.addi v8_r0 c1_i32_7_r0
  let v11_r0 : BitVec 32 := Scalar.select true_8_r0 v10_r0 v8_r0
  let c128_i32_9_r0 : BitVec 32 := 128#32
  let v12_r0 : BitVec 1 := Scalar.cmpi .eq v11_r0 c128_i32_9_r0
  let c0_i32_10_r0 : BitVec 32 := 0#32
  let v13_r0 : BitVec 32 := Scalar.select v12_r0 c0_i32_10_r0 v11_r0
  let c1_i32_12_r0 : BitVec 32 := 1#32
  let v15_r0 : BitVec 32 := Scalar.addi v13_r0 c1_i32_12_r0
  let v16_r0 : BitVec 32 := Scalar.select true_13_r0 v15_r0 v13_r0
  let c128_i32_14_r0 : BitVec 32 := 128#32
  let v17_r0 : BitVec 1 := Scalar.cmpi .eq v16_r0 c128_i32_14_r0
  let c0_i32_15_r0 : BitVec 32 := 0#32
  let v18_r0 : BitVec 32 := Scalar.select v17_r0 c0_i32_15_r0 v16_r0
  let c1_i32_17_r0 : BitVec 32 := 1#32
  let v20_r0 : BitVec 32 := Scalar.addi v18_r0 c1_i32_17_r0
  let v21_r0 : BitVec 32 := Scalar.select true_18_r0 v20_r0 v18_r0
  let c128_i32_19_r0 : BitVec 32 := 128#32
  let v22_r0 : BitVec 1 := Scalar.cmpi .eq v21_r0 c128_i32_19_r0
  let c0_i32_20_r0 : BitVec 32 := 0#32
  let v23_r0 : BitVec 32 := Scalar.select v22_r0 c0_i32_20_r0 v21_r0
  let c1_i32_22_r0 : BitVec 32 := 1#32
  let v25_r0 : BitVec 32 := Scalar.addi v23_r0 c1_i32_22_r0
  let v26_r0 : BitVec 32 := Scalar.select true_23_r0 v25_r0 v23_r0
  let c128_i32_24_r0 : BitVec 32 := 128#32
  let v27_r0 : BitVec 1 := Scalar.cmpi .eq v26_r0 c128_i32_24_r0
  let c0_i32_25_r0 : BitVec 32 := 0#32
  let v28_r0 : BitVec 32 := Scalar.select v27_r0 c0_i32_25_r0 v26_r0
  let c0_i32_26_r0 : BitVec 32 := 0#32
  let v29_r0 : BitVec 32 := Scalar.addi v28_r0 c0_i32_26_r0
  let c0_i32_21_r0 : BitVec 32 := 0#32
  let v24_r0 : BitVec 32 := Scalar.addi v23_r0 c0_i32_21_r0
  let v80_r0 : BitVec 1 := Scalar.cmpi .ne v29_r0 v24_r0
  let v81_r0 : BitVec 1 := Scalar.andi true_66_r0 v80_r0
  let true_67_r0 : BitVec 1 := 1#1
  let v82_r0 : BitVec 1 := Scalar.andi v81_r0 true_67_r0
  let v83_r0 : BitVec 32 := Scalar.extui v82_r0
  let c0_i32_68_r0 : BitVec 32 := 0#32
  let v84_r0 : BitVec 1 := Scalar.cmpi .ne v83_r0 c0_i32_68_r0
  v84_r0

def k0_off15 : Fin 1 → Nat :=
  let true_62_r0 : BitVec 1 := 1#1
  let true_18_r0 : BitVec 1 := 1#1
  let true_13_r0 : BitVec 1 := 1#1
  let true_8_r0 : BitVec 1 := 1#1
  let true_3_r0 : BitVec 1 := 1#1
  let c1_i32_r0 : BitVec 32 := 1#32
  let c0_i32_4_r0 : BitVec 32 := 0#32
  let v6_r0 : BitVec 32 := Scalar.select true_3_r0 c1_i32_r0 c0_i32_4_r0
  let c128_i32_r0 : BitVec 32 := 128#32
  let v7_r0 : BitVec 1 := Scalar.cmpi .eq v6_r0 c128_i32_r0
  let c0_i32_5_r0 : BitVec 32 := 0#32
  let v8_r0 : BitVec 32 := Scalar.select v7_r0 c0_i32_5_r0 v6_r0
  let c1_i32_7_r0 : BitVec 32 := 1#32
  let v10_r0 : BitVec 32 := Scalar.addi v8_r0 c1_i32_7_r0
  let v11_r0 : BitVec 32 := Scalar.select true_8_r0 v10_r0 v8_r0
  let c128_i32_9_r0 : BitVec 32 := 128#32
  let v12_r0 : BitVec 1 := Scalar.cmpi .eq v11_r0 c128_i32_9_r0
  let c0_i32_10_r0 : BitVec 32 := 0#32
  let v13_r0 : BitVec 32 := Scalar.select v12_r0 c0_i32_10_r0 v11_r0
  let c1_i32_12_r0 : BitVec 32 := 1#32
  let v15_r0 : BitVec 32 := Scalar.addi v13_r0 c1_i32_12_r0
  let v16_r0 : BitVec 32 := Scalar.select true_13_r0 v15_r0 v13_r0
  let c128_i32_14_r0 : BitVec 32 := 128#32
  let v17_r0 : BitVec 1 := Scalar.cmpi .eq v16_r0 c128_i32_14_r0
  let c0_i32_15_r0 : BitVec 32 := 0#32
  let v18_r0 : BitVec 32 := Scalar.select v17_r0 c0_i32_15_r0 v16_r0
  let c1_i32_17_r0 : BitVec 32 := 1#32
  let v20_r0 : BitVec 32 := Scalar.addi v18_r0 c1_i32_17_r0
  let v21_r0 : BitVec 32 := Scalar.select true_18_r0 v20_r0 v18_r0
  let c128_i32_19_r0 : BitVec 32 := 128#32
  let v22_r0 : BitVec 1 := Scalar.cmpi .eq v21_r0 c128_i32_19_r0
  let c0_i32_20_r0 : BitVec 32 := 0#32
  let v23_r0 : BitVec 32 := Scalar.select v22_r0 c0_i32_20_r0 v21_r0
  let c0_i32_21_r0 : BitVec 32 := 0#32
  let v24_r0 : BitVec 32 := Scalar.addi v23_r0 c0_i32_21_r0
  let c0_i32_16_r0 : BitVec 32 := 0#32
  let v19_r0 : BitVec 32 := Scalar.addi v18_r0 c0_i32_16_r0
  let v73_r0 : BitVec 1 := Scalar.cmpi .ne v24_r0 v19_r0
  let v74_r0 : BitVec 1 := Scalar.andi true_62_r0 v73_r0
  let true_58_r0 : BitVec 1 := 1#1
  let c0_i32_11_r0 : BitVec 32 := 0#32
  let v14_r0 : BitVec 32 := Scalar.addi v13_r0 c0_i32_11_r0
  let v66_r0 : BitVec 1 := Scalar.cmpi .ne v19_r0 v14_r0
  let v67_r0 : BitVec 1 := Scalar.andi true_58_r0 v66_r0
  let true_54_r0 : BitVec 1 := 1#1
  let c0_i32_6_r0 : BitVec 32 := 0#32
  let v9_r0 : BitVec 32 := Scalar.addi v8_r0 c0_i32_6_r0
  let v59_r0 : BitVec 1 := Scalar.cmpi .ne v14_r0 v9_r0
  let v60_r0 : BitVec 1 := Scalar.andi true_54_r0 v59_r0
  let true_50_r0 : BitVec 1 := 1#1
  let c0_i32_49_r0 : BitVec 32 := 0#32
  let v52_r0 : BitVec 1 := Scalar.cmpi .ne v9_r0 c0_i32_49_r0
  let v53_r0 : BitVec 1 := Scalar.andi true_50_r0 v52_r0
  let c0_i32_47_r0 : BitVec 32 := 0#32
  let c1_i32_48_r0 : BitVec 32 := 1#32
  let v51_r0 : BitVec 32 := Scalar.addi c0_i32_47_r0 c1_i32_48_r0
  let c1_i32_53_r0 : BitVec 32 := 1#32
  let v57_r0 : BitVec 32 := Scalar.addi v51_r0 c1_i32_53_r0
  let v58_r0 : BitVec 32 := Scalar.select v53_r0 v57_r0 v51_r0
  let c1_i32_57_r0 : BitVec 32 := 1#32
  let v64_r0 : BitVec 32 := Scalar.addi v58_r0 c1_i32_57_r0
  let v65_r0 : BitVec 32 := Scalar.select v60_r0 v64_r0 v58_r0
  let c1_i32_61_r0 : BitVec 32 := 1#32
  let v71_r0 : BitVec 32 := Scalar.addi v65_r0 c1_i32_61_r0
  let v72_r0 : BitVec 32 := Scalar.select v67_r0 v71_r0 v65_r0
  let c1_i32_65_r0 : BitVec 32 := 1#32
  let v78_r0 : BitVec 32 := Scalar.addi v72_r0 c1_i32_65_r0
  let v79_r0 : BitVec 32 := Scalar.select v74_r0 v78_r0 v72_r0
  let c8_i32_135_r0 : BitVec 32 := 8#32
  let v153_r0 : BitVec 32 := Scalar.remui v79_r0 c8_i32_135_r0
  ![v153_r0.toNat]
def k0_off16 : Fin 3 → Nat :=
  let true_62_r0 : BitVec 1 := 1#1
  let true_18_r0 : BitVec 1 := 1#1
  let true_13_r0 : BitVec 1 := 1#1
  let true_8_r0 : BitVec 1 := 1#1
  let true_3_r0 : BitVec 1 := 1#1
  let c1_i32_r0 : BitVec 32 := 1#32
  let c0_i32_4_r0 : BitVec 32 := 0#32
  let v6_r0 : BitVec 32 := Scalar.select true_3_r0 c1_i32_r0 c0_i32_4_r0
  let c128_i32_r0 : BitVec 32 := 128#32
  let v7_r0 : BitVec 1 := Scalar.cmpi .eq v6_r0 c128_i32_r0
  let c0_i32_5_r0 : BitVec 32 := 0#32
  let v8_r0 : BitVec 32 := Scalar.select v7_r0 c0_i32_5_r0 v6_r0
  let c1_i32_7_r0 : BitVec 32 := 1#32
  let v10_r0 : BitVec 32 := Scalar.addi v8_r0 c1_i32_7_r0
  let v11_r0 : BitVec 32 := Scalar.select true_8_r0 v10_r0 v8_r0
  let c128_i32_9_r0 : BitVec 32 := 128#32
  let v12_r0 : BitVec 1 := Scalar.cmpi .eq v11_r0 c128_i32_9_r0
  let c0_i32_10_r0 : BitVec 32 := 0#32
  let v13_r0 : BitVec 32 := Scalar.select v12_r0 c0_i32_10_r0 v11_r0
  let c1_i32_12_r0 : BitVec 32 := 1#32
  let v15_r0 : BitVec 32 := Scalar.addi v13_r0 c1_i32_12_r0
  let v16_r0 : BitVec 32 := Scalar.select true_13_r0 v15_r0 v13_r0
  let c128_i32_14_r0 : BitVec 32 := 128#32
  let v17_r0 : BitVec 1 := Scalar.cmpi .eq v16_r0 c128_i32_14_r0
  let c0_i32_15_r0 : BitVec 32 := 0#32
  let v18_r0 : BitVec 32 := Scalar.select v17_r0 c0_i32_15_r0 v16_r0
  let c1_i32_17_r0 : BitVec 32 := 1#32
  let v20_r0 : BitVec 32 := Scalar.addi v18_r0 c1_i32_17_r0
  let v21_r0 : BitVec 32 := Scalar.select true_18_r0 v20_r0 v18_r0
  let c128_i32_19_r0 : BitVec 32 := 128#32
  let v22_r0 : BitVec 1 := Scalar.cmpi .eq v21_r0 c128_i32_19_r0
  let c0_i32_20_r0 : BitVec 32 := 0#32
  let v23_r0 : BitVec 32 := Scalar.select v22_r0 c0_i32_20_r0 v21_r0
  let c0_i32_21_r0 : BitVec 32 := 0#32
  let v24_r0 : BitVec 32 := Scalar.addi v23_r0 c0_i32_21_r0
  let c0_i32_16_r0 : BitVec 32 := 0#32
  let v19_r0 : BitVec 32 := Scalar.addi v18_r0 c0_i32_16_r0
  let v73_r0 : BitVec 1 := Scalar.cmpi .ne v24_r0 v19_r0
  let v74_r0 : BitVec 1 := Scalar.andi true_62_r0 v73_r0
  let true_58_r0 : BitVec 1 := 1#1
  let c0_i32_11_r0 : BitVec 32 := 0#32
  let v14_r0 : BitVec 32 := Scalar.addi v13_r0 c0_i32_11_r0
  let v66_r0 : BitVec 1 := Scalar.cmpi .ne v19_r0 v14_r0
  let v67_r0 : BitVec 1 := Scalar.andi true_58_r0 v66_r0
  let true_54_r0 : BitVec 1 := 1#1
  let c0_i32_6_r0 : BitVec 32 := 0#32
  let v9_r0 : BitVec 32 := Scalar.addi v8_r0 c0_i32_6_r0
  let v59_r0 : BitVec 1 := Scalar.cmpi .ne v14_r0 v9_r0
  let v60_r0 : BitVec 1 := Scalar.andi true_54_r0 v59_r0
  let true_50_r0 : BitVec 1 := 1#1
  let c0_i32_49_r0 : BitVec 32 := 0#32
  let v52_r0 : BitVec 1 := Scalar.cmpi .ne v9_r0 c0_i32_49_r0
  let v53_r0 : BitVec 1 := Scalar.andi true_50_r0 v52_r0
  let c0_i32_47_r0 : BitVec 32 := 0#32
  let c1_i32_48_r0 : BitVec 32 := 1#32
  let v51_r0 : BitVec 32 := Scalar.addi c0_i32_47_r0 c1_i32_48_r0
  let c1_i32_53_r0 : BitVec 32 := 1#32
  let v57_r0 : BitVec 32 := Scalar.addi v51_r0 c1_i32_53_r0
  let v58_r0 : BitVec 32 := Scalar.select v53_r0 v57_r0 v51_r0
  let c1_i32_57_r0 : BitVec 32 := 1#32
  let v64_r0 : BitVec 32 := Scalar.addi v58_r0 c1_i32_57_r0
  let v65_r0 : BitVec 32 := Scalar.select v60_r0 v64_r0 v58_r0
  let c1_i32_61_r0 : BitVec 32 := 1#32
  let v71_r0 : BitVec 32 := Scalar.addi v65_r0 c1_i32_61_r0
  let v72_r0 : BitVec 32 := Scalar.select v67_r0 v71_r0 v65_r0
  let c1_i32_65_r0 : BitVec 32 := 1#32
  let v78_r0 : BitVec 32 := Scalar.addi v72_r0 c1_i32_65_r0
  let v79_r0 : BitVec 32 := Scalar.select v74_r0 v78_r0 v72_r0
  let c8_i32_135_r0 : BitVec 32 := 8#32
  let v153_r0 : BitVec 32 := Scalar.remui v79_r0 c8_i32_135_r0
  let c0_i32_137_r0 : BitVec 32 := 0#32
  let c0_i32_138_r0 : BitVec 32 := 0#32
  ![v153_r0.toNat, 0, 0]
def k0_off17 : Fin 2 → Nat :=
  let c256_i32_136_r0 : BitVec 32 := 256#32
  let true_23_r0 : BitVec 1 := 1#1
  let true_18_r0 : BitVec 1 := 1#1
  let true_13_r0 : BitVec 1 := 1#1
  let true_8_r0 : BitVec 1 := 1#1
  let true_3_r0 : BitVec 1 := 1#1
  let c1_i32_r0 : BitVec 32 := 1#32
  let c0_i32_4_r0 : BitVec 32 := 0#32
  let v6_r0 : BitVec 32 := Scalar.select true_3_r0 c1_i32_r0 c0_i32_4_r0
  let c128_i32_r0 : BitVec 32 := 128#32
  let v7_r0 : BitVec 1 := Scalar.cmpi .eq v6_r0 c128_i32_r0
  let c0_i32_5_r0 : BitVec 32 := 0#32
  let v8_r0 : BitVec 32 := Scalar.select v7_r0 c0_i32_5_r0 v6_r0
  let c1_i32_7_r0 : BitVec 32 := 1#32
  let v10_r0 : BitVec 32 := Scalar.addi v8_r0 c1_i32_7_r0
  let v11_r0 : BitVec 32 := Scalar.select true_8_r0 v10_r0 v8_r0
  let c128_i32_9_r0 : BitVec 32 := 128#32
  let v12_r0 : BitVec 1 := Scalar.cmpi .eq v11_r0 c128_i32_9_r0
  let c0_i32_10_r0 : BitVec 32 := 0#32
  let v13_r0 : BitVec 32 := Scalar.select v12_r0 c0_i32_10_r0 v11_r0
  let c1_i32_12_r0 : BitVec 32 := 1#32
  let v15_r0 : BitVec 32 := Scalar.addi v13_r0 c1_i32_12_r0
  let v16_r0 : BitVec 32 := Scalar.select true_13_r0 v15_r0 v13_r0
  let c128_i32_14_r0 : BitVec 32 := 128#32
  let v17_r0 : BitVec 1 := Scalar.cmpi .eq v16_r0 c128_i32_14_r0
  let c0_i32_15_r0 : BitVec 32 := 0#32
  let v18_r0 : BitVec 32 := Scalar.select v17_r0 c0_i32_15_r0 v16_r0
  let c1_i32_17_r0 : BitVec 32 := 1#32
  let v20_r0 : BitVec 32 := Scalar.addi v18_r0 c1_i32_17_r0
  let v21_r0 : BitVec 32 := Scalar.select true_18_r0 v20_r0 v18_r0
  let c128_i32_19_r0 : BitVec 32 := 128#32
  let v22_r0 : BitVec 1 := Scalar.cmpi .eq v21_r0 c128_i32_19_r0
  let c0_i32_20_r0 : BitVec 32 := 0#32
  let v23_r0 : BitVec 32 := Scalar.select v22_r0 c0_i32_20_r0 v21_r0
  let c1_i32_22_r0 : BitVec 32 := 1#32
  let v25_r0 : BitVec 32 := Scalar.addi v23_r0 c1_i32_22_r0
  let v26_r0 : BitVec 32 := Scalar.select true_23_r0 v25_r0 v23_r0
  let c128_i32_24_r0 : BitVec 32 := 128#32
  let v27_r0 : BitVec 1 := Scalar.cmpi .eq v26_r0 c128_i32_24_r0
  let c0_i32_25_r0 : BitVec 32 := 0#32
  let v28_r0 : BitVec 32 := Scalar.select v27_r0 c0_i32_25_r0 v26_r0
  let c0_i32_26_r0 : BitVec 32 := 0#32
  let v29_r0 : BitVec 32 := Scalar.addi v28_r0 c0_i32_26_r0
  let v154_r0 : BitVec 32 := Scalar.muli c256_i32_136_r0 v29_r0
  let c0_i32_139_r0 : BitVec 32 := 0#32
  ![v154_r0.toNat, 0]
def k0_cond6 : BitVec 1 :=
  let true_70_r0 : BitVec 1 := 1#1
  let true_28_r0 : BitVec 1 := 1#1
  let true_23_r0 : BitVec 1 := 1#1
  let true_18_r0 : BitVec 1 := 1#1
  let true_13_r0 : BitVec 1 := 1#1
  let true_8_r0 : BitVec 1 := 1#1
  let true_3_r0 : BitVec 1 := 1#1
  let c1_i32_r0 : BitVec 32 := 1#32
  let c0_i32_4_r0 : BitVec 32 := 0#32
  let v6_r0 : BitVec 32 := Scalar.select true_3_r0 c1_i32_r0 c0_i32_4_r0
  let c128_i32_r0 : BitVec 32 := 128#32
  let v7_r0 : BitVec 1 := Scalar.cmpi .eq v6_r0 c128_i32_r0
  let c0_i32_5_r0 : BitVec 32 := 0#32
  let v8_r0 : BitVec 32 := Scalar.select v7_r0 c0_i32_5_r0 v6_r0
  let c1_i32_7_r0 : BitVec 32 := 1#32
  let v10_r0 : BitVec 32 := Scalar.addi v8_r0 c1_i32_7_r0
  let v11_r0 : BitVec 32 := Scalar.select true_8_r0 v10_r0 v8_r0
  let c128_i32_9_r0 : BitVec 32 := 128#32
  let v12_r0 : BitVec 1 := Scalar.cmpi .eq v11_r0 c128_i32_9_r0
  let c0_i32_10_r0 : BitVec 32 := 0#32
  let v13_r0 : BitVec 32 := Scalar.select v12_r0 c0_i32_10_r0 v11_r0
  let c1_i32_12_r0 : BitVec 32 := 1#32
  let v15_r0 : BitVec 32 := Scalar.addi v13_r0 c1_i32_12_r0
  let v16_r0 : BitVec 32 := Scalar.select true_13_r0 v15_r0 v13_r0
  let c128_i32_14_r0 : BitVec 32 := 128#32
  let v17_r0 : BitVec 1 := Scalar.cmpi .eq v16_r0 c128_i32_14_r0
  let c0_i32_15_r0 : BitVec 32 := 0#32
  let v18_r0 : BitVec 32 := Scalar.select v17_r0 c0_i32_15_r0 v16_r0
  let c1_i32_17_r0 : BitVec 32 := 1#32
  let v20_r0 : BitVec 32 := Scalar.addi v18_r0 c1_i32_17_r0
  let v21_r0 : BitVec 32 := Scalar.select true_18_r0 v20_r0 v18_r0
  let c128_i32_19_r0 : BitVec 32 := 128#32
  let v22_r0 : BitVec 1 := Scalar.cmpi .eq v21_r0 c128_i32_19_r0
  let c0_i32_20_r0 : BitVec 32 := 0#32
  let v23_r0 : BitVec 32 := Scalar.select v22_r0 c0_i32_20_r0 v21_r0
  let c1_i32_22_r0 : BitVec 32 := 1#32
  let v25_r0 : BitVec 32 := Scalar.addi v23_r0 c1_i32_22_r0
  let v26_r0 : BitVec 32 := Scalar.select true_23_r0 v25_r0 v23_r0
  let c128_i32_24_r0 : BitVec 32 := 128#32
  let v27_r0 : BitVec 1 := Scalar.cmpi .eq v26_r0 c128_i32_24_r0
  let c0_i32_25_r0 : BitVec 32 := 0#32
  let v28_r0 : BitVec 32 := Scalar.select v27_r0 c0_i32_25_r0 v26_r0
  let c1_i32_27_r0 : BitVec 32 := 1#32
  let v30_r0 : BitVec 32 := Scalar.addi v28_r0 c1_i32_27_r0
  let v31_r0 : BitVec 32 := Scalar.select true_28_r0 v30_r0 v28_r0
  let c128_i32_29_r0 : BitVec 32 := 128#32
  let v32_r0 : BitVec 1 := Scalar.cmpi .eq v31_r0 c128_i32_29_r0
  let c0_i32_30_r0 : BitVec 32 := 0#32
  let v33_r0 : BitVec 32 := Scalar.select v32_r0 c0_i32_30_r0 v31_r0
  let c0_i32_31_r0 : BitVec 32 := 0#32
  let v34_r0 : BitVec 32 := Scalar.addi v33_r0 c0_i32_31_r0
  let c0_i32_26_r0 : BitVec 32 := 0#32
  let v29_r0 : BitVec 32 := Scalar.addi v28_r0 c0_i32_26_r0
  let v87_r0 : BitVec 1 := Scalar.cmpi .ne v34_r0 v29_r0
  let v88_r0 : BitVec 1 := Scalar.andi true_70_r0 v87_r0
  let true_71_r0 : BitVec 1 := 1#1
  let v89_r0 : BitVec 1 := Scalar.andi v88_r0 true_71_r0
  let v90_r0 : BitVec 32 := Scalar.extui v89_r0
  let c0_i32_72_r0 : BitVec 32 := 0#32
  let v91_r0 : BitVec 1 := Scalar.cmpi .ne v90_r0 c0_i32_72_r0
  v91_r0

def k0_off18 : Fin 1 → Nat :=
  let true_66_r0 : BitVec 1 := 1#1
  let true_23_r0 : BitVec 1 := 1#1
  let true_18_r0 : BitVec 1 := 1#1
  let true_13_r0 : BitVec 1 := 1#1
  let true_8_r0 : BitVec 1 := 1#1
  let true_3_r0 : BitVec 1 := 1#1
  let c1_i32_r0 : BitVec 32 := 1#32
  let c0_i32_4_r0 : BitVec 32 := 0#32
  let v6_r0 : BitVec 32 := Scalar.select true_3_r0 c1_i32_r0 c0_i32_4_r0
  let c128_i32_r0 : BitVec 32 := 128#32
  let v7_r0 : BitVec 1 := Scalar.cmpi .eq v6_r0 c128_i32_r0
  let c0_i32_5_r0 : BitVec 32 := 0#32
  let v8_r0 : BitVec 32 := Scalar.select v7_r0 c0_i32_5_r0 v6_r0
  let c1_i32_7_r0 : BitVec 32 := 1#32
  let v10_r0 : BitVec 32 := Scalar.addi v8_r0 c1_i32_7_r0
  let v11_r0 : BitVec 32 := Scalar.select true_8_r0 v10_r0 v8_r0
  let c128_i32_9_r0 : BitVec 32 := 128#32
  let v12_r0 : BitVec 1 := Scalar.cmpi .eq v11_r0 c128_i32_9_r0
  let c0_i32_10_r0 : BitVec 32 := 0#32
  let v13_r0 : BitVec 32 := Scalar.select v12_r0 c0_i32_10_r0 v11_r0
  let c1_i32_12_r0 : BitVec 32 := 1#32
  let v15_r0 : BitVec 32 := Scalar.addi v13_r0 c1_i32_12_r0
  let v16_r0 : BitVec 32 := Scalar.select true_13_r0 v15_r0 v13_r0
  let c128_i32_14_r0 : BitVec 32 := 128#32
  let v17_r0 : BitVec 1 := Scalar.cmpi .eq v16_r0 c128_i32_14_r0
  let c0_i32_15_r0 : BitVec 32 := 0#32
  let v18_r0 : BitVec 32 := Scalar.select v17_r0 c0_i32_15_r0 v16_r0
  let c1_i32_17_r0 : BitVec 32 := 1#32
  let v20_r0 : BitVec 32 := Scalar.addi v18_r0 c1_i32_17_r0
  let v21_r0 : BitVec 32 := Scalar.select true_18_r0 v20_r0 v18_r0
  let c128_i32_19_r0 : BitVec 32 := 128#32
  let v22_r0 : BitVec 1 := Scalar.cmpi .eq v21_r0 c128_i32_19_r0
  let c0_i32_20_r0 : BitVec 32 := 0#32
  let v23_r0 : BitVec 32 := Scalar.select v22_r0 c0_i32_20_r0 v21_r0
  let c1_i32_22_r0 : BitVec 32 := 1#32
  let v25_r0 : BitVec 32 := Scalar.addi v23_r0 c1_i32_22_r0
  let v26_r0 : BitVec 32 := Scalar.select true_23_r0 v25_r0 v23_r0
  let c128_i32_24_r0 : BitVec 32 := 128#32
  let v27_r0 : BitVec 1 := Scalar.cmpi .eq v26_r0 c128_i32_24_r0
  let c0_i32_25_r0 : BitVec 32 := 0#32
  let v28_r0 : BitVec 32 := Scalar.select v27_r0 c0_i32_25_r0 v26_r0
  let c0_i32_26_r0 : BitVec 32 := 0#32
  let v29_r0 : BitVec 32 := Scalar.addi v28_r0 c0_i32_26_r0
  let c0_i32_21_r0 : BitVec 32 := 0#32
  let v24_r0 : BitVec 32 := Scalar.addi v23_r0 c0_i32_21_r0
  let v80_r0 : BitVec 1 := Scalar.cmpi .ne v29_r0 v24_r0
  let v81_r0 : BitVec 1 := Scalar.andi true_66_r0 v80_r0
  let true_62_r0 : BitVec 1 := 1#1
  let c0_i32_16_r0 : BitVec 32 := 0#32
  let v19_r0 : BitVec 32 := Scalar.addi v18_r0 c0_i32_16_r0
  let v73_r0 : BitVec 1 := Scalar.cmpi .ne v24_r0 v19_r0
  let v74_r0 : BitVec 1 := Scalar.andi true_62_r0 v73_r0
  let true_58_r0 : BitVec 1 := 1#1
  let c0_i32_11_r0 : BitVec 32 := 0#32
  let v14_r0 : BitVec 32 := Scalar.addi v13_r0 c0_i32_11_r0
  let v66_r0 : BitVec 1 := Scalar.cmpi .ne v19_r0 v14_r0
  let v67_r0 : BitVec 1 := Scalar.andi true_58_r0 v66_r0
  let true_54_r0 : BitVec 1 := 1#1
  let c0_i32_6_r0 : BitVec 32 := 0#32
  let v9_r0 : BitVec 32 := Scalar.addi v8_r0 c0_i32_6_r0
  let v59_r0 : BitVec 1 := Scalar.cmpi .ne v14_r0 v9_r0
  let v60_r0 : BitVec 1 := Scalar.andi true_54_r0 v59_r0
  let true_50_r0 : BitVec 1 := 1#1
  let c0_i32_49_r0 : BitVec 32 := 0#32
  let v52_r0 : BitVec 1 := Scalar.cmpi .ne v9_r0 c0_i32_49_r0
  let v53_r0 : BitVec 1 := Scalar.andi true_50_r0 v52_r0
  let c0_i32_47_r0 : BitVec 32 := 0#32
  let c1_i32_48_r0 : BitVec 32 := 1#32
  let v51_r0 : BitVec 32 := Scalar.addi c0_i32_47_r0 c1_i32_48_r0
  let c1_i32_53_r0 : BitVec 32 := 1#32
  let v57_r0 : BitVec 32 := Scalar.addi v51_r0 c1_i32_53_r0
  let v58_r0 : BitVec 32 := Scalar.select v53_r0 v57_r0 v51_r0
  let c1_i32_57_r0 : BitVec 32 := 1#32
  let v64_r0 : BitVec 32 := Scalar.addi v58_r0 c1_i32_57_r0
  let v65_r0 : BitVec 32 := Scalar.select v60_r0 v64_r0 v58_r0
  let c1_i32_61_r0 : BitVec 32 := 1#32
  let v71_r0 : BitVec 32 := Scalar.addi v65_r0 c1_i32_61_r0
  let v72_r0 : BitVec 32 := Scalar.select v67_r0 v71_r0 v65_r0
  let c1_i32_65_r0 : BitVec 32 := 1#32
  let v78_r0 : BitVec 32 := Scalar.addi v72_r0 c1_i32_65_r0
  let v79_r0 : BitVec 32 := Scalar.select v74_r0 v78_r0 v72_r0
  let c1_i32_69_r0 : BitVec 32 := 1#32
  let v85_r0 : BitVec 32 := Scalar.addi v79_r0 c1_i32_69_r0
  let v86_r0 : BitVec 32 := Scalar.select v81_r0 v85_r0 v79_r0
  let c8_i32_135_r0 : BitVec 32 := 8#32
  let v153_r0 : BitVec 32 := Scalar.remui v86_r0 c8_i32_135_r0
  ![v153_r0.toNat]
def k0_off19 : Fin 3 → Nat :=
  let true_66_r0 : BitVec 1 := 1#1
  let true_23_r0 : BitVec 1 := 1#1
  let true_18_r0 : BitVec 1 := 1#1
  let true_13_r0 : BitVec 1 := 1#1
  let true_8_r0 : BitVec 1 := 1#1
  let true_3_r0 : BitVec 1 := 1#1
  let c1_i32_r0 : BitVec 32 := 1#32
  let c0_i32_4_r0 : BitVec 32 := 0#32
  let v6_r0 : BitVec 32 := Scalar.select true_3_r0 c1_i32_r0 c0_i32_4_r0
  let c128_i32_r0 : BitVec 32 := 128#32
  let v7_r0 : BitVec 1 := Scalar.cmpi .eq v6_r0 c128_i32_r0
  let c0_i32_5_r0 : BitVec 32 := 0#32
  let v8_r0 : BitVec 32 := Scalar.select v7_r0 c0_i32_5_r0 v6_r0
  let c1_i32_7_r0 : BitVec 32 := 1#32
  let v10_r0 : BitVec 32 := Scalar.addi v8_r0 c1_i32_7_r0
  let v11_r0 : BitVec 32 := Scalar.select true_8_r0 v10_r0 v8_r0
  let c128_i32_9_r0 : BitVec 32 := 128#32
  let v12_r0 : BitVec 1 := Scalar.cmpi .eq v11_r0 c128_i32_9_r0
  let c0_i32_10_r0 : BitVec 32 := 0#32
  let v13_r0 : BitVec 32 := Scalar.select v12_r0 c0_i32_10_r0 v11_r0
  let c1_i32_12_r0 : BitVec 32 := 1#32
  let v15_r0 : BitVec 32 := Scalar.addi v13_r0 c1_i32_12_r0
  let v16_r0 : BitVec 32 := Scalar.select true_13_r0 v15_r0 v13_r0
  let c128_i32_14_r0 : BitVec 32 := 128#32
  let v17_r0 : BitVec 1 := Scalar.cmpi .eq v16_r0 c128_i32_14_r0
  let c0_i32_15_r0 : BitVec 32 := 0#32
  let v18_r0 : BitVec 32 := Scalar.select v17_r0 c0_i32_15_r0 v16_r0
  let c1_i32_17_r0 : BitVec 32 := 1#32
  let v20_r0 : BitVec 32 := Scalar.addi v18_r0 c1_i32_17_r0
  let v21_r0 : BitVec 32 := Scalar.select true_18_r0 v20_r0 v18_r0
  let c128_i32_19_r0 : BitVec 32 := 128#32
  let v22_r0 : BitVec 1 := Scalar.cmpi .eq v21_r0 c128_i32_19_r0
  let c0_i32_20_r0 : BitVec 32 := 0#32
  let v23_r0 : BitVec 32 := Scalar.select v22_r0 c0_i32_20_r0 v21_r0
  let c1_i32_22_r0 : BitVec 32 := 1#32
  let v25_r0 : BitVec 32 := Scalar.addi v23_r0 c1_i32_22_r0
  let v26_r0 : BitVec 32 := Scalar.select true_23_r0 v25_r0 v23_r0
  let c128_i32_24_r0 : BitVec 32 := 128#32
  let v27_r0 : BitVec 1 := Scalar.cmpi .eq v26_r0 c128_i32_24_r0
  let c0_i32_25_r0 : BitVec 32 := 0#32
  let v28_r0 : BitVec 32 := Scalar.select v27_r0 c0_i32_25_r0 v26_r0
  let c0_i32_26_r0 : BitVec 32 := 0#32
  let v29_r0 : BitVec 32 := Scalar.addi v28_r0 c0_i32_26_r0
  let c0_i32_21_r0 : BitVec 32 := 0#32
  let v24_r0 : BitVec 32 := Scalar.addi v23_r0 c0_i32_21_r0
  let v80_r0 : BitVec 1 := Scalar.cmpi .ne v29_r0 v24_r0
  let v81_r0 : BitVec 1 := Scalar.andi true_66_r0 v80_r0
  let true_62_r0 : BitVec 1 := 1#1
  let c0_i32_16_r0 : BitVec 32 := 0#32
  let v19_r0 : BitVec 32 := Scalar.addi v18_r0 c0_i32_16_r0
  let v73_r0 : BitVec 1 := Scalar.cmpi .ne v24_r0 v19_r0
  let v74_r0 : BitVec 1 := Scalar.andi true_62_r0 v73_r0
  let true_58_r0 : BitVec 1 := 1#1
  let c0_i32_11_r0 : BitVec 32 := 0#32
  let v14_r0 : BitVec 32 := Scalar.addi v13_r0 c0_i32_11_r0
  let v66_r0 : BitVec 1 := Scalar.cmpi .ne v19_r0 v14_r0
  let v67_r0 : BitVec 1 := Scalar.andi true_58_r0 v66_r0
  let true_54_r0 : BitVec 1 := 1#1
  let c0_i32_6_r0 : BitVec 32 := 0#32
  let v9_r0 : BitVec 32 := Scalar.addi v8_r0 c0_i32_6_r0
  let v59_r0 : BitVec 1 := Scalar.cmpi .ne v14_r0 v9_r0
  let v60_r0 : BitVec 1 := Scalar.andi true_54_r0 v59_r0
  let true_50_r0 : BitVec 1 := 1#1
  let c0_i32_49_r0 : BitVec 32 := 0#32
  let v52_r0 : BitVec 1 := Scalar.cmpi .ne v9_r0 c0_i32_49_r0
  let v53_r0 : BitVec 1 := Scalar.andi true_50_r0 v52_r0
  let c0_i32_47_r0 : BitVec 32 := 0#32
  let c1_i32_48_r0 : BitVec 32 := 1#32
  let v51_r0 : BitVec 32 := Scalar.addi c0_i32_47_r0 c1_i32_48_r0
  let c1_i32_53_r0 : BitVec 32 := 1#32
  let v57_r0 : BitVec 32 := Scalar.addi v51_r0 c1_i32_53_r0
  let v58_r0 : BitVec 32 := Scalar.select v53_r0 v57_r0 v51_r0
  let c1_i32_57_r0 : BitVec 32 := 1#32
  let v64_r0 : BitVec 32 := Scalar.addi v58_r0 c1_i32_57_r0
  let v65_r0 : BitVec 32 := Scalar.select v60_r0 v64_r0 v58_r0
  let c1_i32_61_r0 : BitVec 32 := 1#32
  let v71_r0 : BitVec 32 := Scalar.addi v65_r0 c1_i32_61_r0
  let v72_r0 : BitVec 32 := Scalar.select v67_r0 v71_r0 v65_r0
  let c1_i32_65_r0 : BitVec 32 := 1#32
  let v78_r0 : BitVec 32 := Scalar.addi v72_r0 c1_i32_65_r0
  let v79_r0 : BitVec 32 := Scalar.select v74_r0 v78_r0 v72_r0
  let c1_i32_69_r0 : BitVec 32 := 1#32
  let v85_r0 : BitVec 32 := Scalar.addi v79_r0 c1_i32_69_r0
  let v86_r0 : BitVec 32 := Scalar.select v81_r0 v85_r0 v79_r0
  let c8_i32_135_r0 : BitVec 32 := 8#32
  let v153_r0 : BitVec 32 := Scalar.remui v86_r0 c8_i32_135_r0
  let c0_i32_137_r0 : BitVec 32 := 0#32
  let c0_i32_138_r0 : BitVec 32 := 0#32
  ![v153_r0.toNat, 0, 0]
def k0_off20 : Fin 2 → Nat :=
  let c256_i32_136_r0 : BitVec 32 := 256#32
  let true_28_r0 : BitVec 1 := 1#1
  let true_23_r0 : BitVec 1 := 1#1
  let true_18_r0 : BitVec 1 := 1#1
  let true_13_r0 : BitVec 1 := 1#1
  let true_8_r0 : BitVec 1 := 1#1
  let true_3_r0 : BitVec 1 := 1#1
  let c1_i32_r0 : BitVec 32 := 1#32
  let c0_i32_4_r0 : BitVec 32 := 0#32
  let v6_r0 : BitVec 32 := Scalar.select true_3_r0 c1_i32_r0 c0_i32_4_r0
  let c128_i32_r0 : BitVec 32 := 128#32
  let v7_r0 : BitVec 1 := Scalar.cmpi .eq v6_r0 c128_i32_r0
  let c0_i32_5_r0 : BitVec 32 := 0#32
  let v8_r0 : BitVec 32 := Scalar.select v7_r0 c0_i32_5_r0 v6_r0
  let c1_i32_7_r0 : BitVec 32 := 1#32
  let v10_r0 : BitVec 32 := Scalar.addi v8_r0 c1_i32_7_r0
  let v11_r0 : BitVec 32 := Scalar.select true_8_r0 v10_r0 v8_r0
  let c128_i32_9_r0 : BitVec 32 := 128#32
  let v12_r0 : BitVec 1 := Scalar.cmpi .eq v11_r0 c128_i32_9_r0
  let c0_i32_10_r0 : BitVec 32 := 0#32
  let v13_r0 : BitVec 32 := Scalar.select v12_r0 c0_i32_10_r0 v11_r0
  let c1_i32_12_r0 : BitVec 32 := 1#32
  let v15_r0 : BitVec 32 := Scalar.addi v13_r0 c1_i32_12_r0
  let v16_r0 : BitVec 32 := Scalar.select true_13_r0 v15_r0 v13_r0
  let c128_i32_14_r0 : BitVec 32 := 128#32
  let v17_r0 : BitVec 1 := Scalar.cmpi .eq v16_r0 c128_i32_14_r0
  let c0_i32_15_r0 : BitVec 32 := 0#32
  let v18_r0 : BitVec 32 := Scalar.select v17_r0 c0_i32_15_r0 v16_r0
  let c1_i32_17_r0 : BitVec 32 := 1#32
  let v20_r0 : BitVec 32 := Scalar.addi v18_r0 c1_i32_17_r0
  let v21_r0 : BitVec 32 := Scalar.select true_18_r0 v20_r0 v18_r0
  let c128_i32_19_r0 : BitVec 32 := 128#32
  let v22_r0 : BitVec 1 := Scalar.cmpi .eq v21_r0 c128_i32_19_r0
  let c0_i32_20_r0 : BitVec 32 := 0#32
  let v23_r0 : BitVec 32 := Scalar.select v22_r0 c0_i32_20_r0 v21_r0
  let c1_i32_22_r0 : BitVec 32 := 1#32
  let v25_r0 : BitVec 32 := Scalar.addi v23_r0 c1_i32_22_r0
  let v26_r0 : BitVec 32 := Scalar.select true_23_r0 v25_r0 v23_r0
  let c128_i32_24_r0 : BitVec 32 := 128#32
  let v27_r0 : BitVec 1 := Scalar.cmpi .eq v26_r0 c128_i32_24_r0
  let c0_i32_25_r0 : BitVec 32 := 0#32
  let v28_r0 : BitVec 32 := Scalar.select v27_r0 c0_i32_25_r0 v26_r0
  let c1_i32_27_r0 : BitVec 32 := 1#32
  let v30_r0 : BitVec 32 := Scalar.addi v28_r0 c1_i32_27_r0
  let v31_r0 : BitVec 32 := Scalar.select true_28_r0 v30_r0 v28_r0
  let c128_i32_29_r0 : BitVec 32 := 128#32
  let v32_r0 : BitVec 1 := Scalar.cmpi .eq v31_r0 c128_i32_29_r0
  let c0_i32_30_r0 : BitVec 32 := 0#32
  let v33_r0 : BitVec 32 := Scalar.select v32_r0 c0_i32_30_r0 v31_r0
  let c0_i32_31_r0 : BitVec 32 := 0#32
  let v34_r0 : BitVec 32 := Scalar.addi v33_r0 c0_i32_31_r0
  let v154_r0 : BitVec 32 := Scalar.muli c256_i32_136_r0 v34_r0
  let c0_i32_139_r0 : BitVec 32 := 0#32
  ![v154_r0.toNat, 0]
@[reducible] def k0_t1_loop : Scf.Loop 32 :=
  let c0_i32_78_r0 : BitVec 32 := 0#32
  let c128_i32_79_r0 : BitVec 32 := 128#32
  let v94_r0 : BitVec 32 := Scalar.addi c0_i32_78_r0 c128_i32_79_r0
  let c1_i32_80_r0 : BitVec 32 := 1#32
  ⟨c0_i32_78_r0, v94_r0, c1_i32_80_r0⟩
def k0_off21 (arg7_r0 : BitVec 32) : Fin 1 → Nat :=
  let c8_i32_227_r0 : BitVec 32 := 8#32
  let v293_r0 : BitVec 32 := Scalar.remui arg7_r0 c8_i32_227_r0
  ![v293_r0.toNat]
def k0_cond7 (k0_t1 : Fin k0_t1_loop.trips) (arg11_r0 : BitVec 32) : BitVec 1 :=
  let true_169_r0 : BitVec 1 := 1#1
  let true_164_r0 : BitVec 1 := 1#1
  let true_159_r0 : BitVec 1 := 1#1
  let true_154_r0 : BitVec 1 := 1#1
  let true_149_r0 : BitVec 1 := 1#1
  let true_144_r0 : BitVec 1 := 1#1
  let c1_i32_143_r0 : BitVec 32 := 1#32
  let v161_r0 : BitVec 32 := Scalar.addi arg11_r0 c1_i32_143_r0
  let v162_r0 : BitVec 32 := Scalar.select true_144_r0 v161_r0 arg11_r0
  let c128_i32_145_r0 : BitVec 32 := 128#32
  let v163_r0 : BitVec 1 := Scalar.cmpi .eq v162_r0 c128_i32_145_r0
  let c0_i32_146_r0 : BitVec 32 := 0#32
  let v164_r0 : BitVec 32 := Scalar.select v163_r0 c0_i32_146_r0 v162_r0
  let c1_i32_148_r0 : BitVec 32 := 1#32
  let v166_r0 : BitVec 32 := Scalar.addi v164_r0 c1_i32_148_r0
  let v167_r0 : BitVec 32 := Scalar.select true_149_r0 v166_r0 v164_r0
  let c128_i32_150_r0 : BitVec 32 := 128#32
  let v168_r0 : BitVec 1 := Scalar.cmpi .eq v167_r0 c128_i32_150_r0
  let c0_i32_151_r0 : BitVec 32 := 0#32
  let v169_r0 : BitVec 32 := Scalar.select v168_r0 c0_i32_151_r0 v167_r0
  let c1_i32_153_r0 : BitVec 32 := 1#32
  let v171_r0 : BitVec 32 := Scalar.addi v169_r0 c1_i32_153_r0
  let v172_r0 : BitVec 32 := Scalar.select true_154_r0 v171_r0 v169_r0
  let c128_i32_155_r0 : BitVec 32 := 128#32
  let v173_r0 : BitVec 1 := Scalar.cmpi .eq v172_r0 c128_i32_155_r0
  let c0_i32_156_r0 : BitVec 32 := 0#32
  let v174_r0 : BitVec 32 := Scalar.select v173_r0 c0_i32_156_r0 v172_r0
  let c1_i32_158_r0 : BitVec 32 := 1#32
  let v176_r0 : BitVec 32 := Scalar.addi v174_r0 c1_i32_158_r0
  let v177_r0 : BitVec 32 := Scalar.select true_159_r0 v176_r0 v174_r0
  let c128_i32_160_r0 : BitVec 32 := 128#32
  let v178_r0 : BitVec 1 := Scalar.cmpi .eq v177_r0 c128_i32_160_r0
  let c0_i32_161_r0 : BitVec 32 := 0#32
  let v179_r0 : BitVec 32 := Scalar.select v178_r0 c0_i32_161_r0 v177_r0
  let c1_i32_163_r0 : BitVec 32 := 1#32
  let v181_r0 : BitVec 32 := Scalar.addi v179_r0 c1_i32_163_r0
  let v182_r0 : BitVec 32 := Scalar.select true_164_r0 v181_r0 v179_r0
  let c128_i32_165_r0 : BitVec 32 := 128#32
  let v183_r0 : BitVec 1 := Scalar.cmpi .eq v182_r0 c128_i32_165_r0
  let c0_i32_166_r0 : BitVec 32 := 0#32
  let v184_r0 : BitVec 32 := Scalar.select v183_r0 c0_i32_166_r0 v182_r0
  let c1_i32_168_r0 : BitVec 32 := 1#32
  let v186_r0 : BitVec 32 := Scalar.addi v184_r0 c1_i32_168_r0
  let v187_r0 : BitVec 32 := Scalar.select true_169_r0 v186_r0 v184_r0
  let c128_i32_170_r0 : BitVec 32 := 128#32
  let v188_r0 : BitVec 1 := Scalar.cmpi .eq v187_r0 c128_i32_170_r0
  let c0_i32_171_r0 : BitVec 32 := 0#32
  let v189_r0 : BitVec 32 := Scalar.select v188_r0 c0_i32_171_r0 v187_r0
  let c0_i32_172_r0 : BitVec 32 := 0#32
  let v190_r0 : BitVec 32 := Scalar.addi v189_r0 c0_i32_172_r0
  let true_174_r0 : BitVec 1 := 1#1
  let c1_i32_173_r0 : BitVec 32 := 1#32
  let v191_r0 : BitVec 32 := Scalar.addi v189_r0 c1_i32_173_r0
  let v192_r0 : BitVec 32 := Scalar.select true_174_r0 v191_r0 v189_r0
  let c128_i32_175_r0 : BitVec 32 := 128#32
  let v193_r0 : BitVec 1 := Scalar.cmpi .eq v192_r0 c128_i32_175_r0
  let c0_i32_176_r0 : BitVec 32 := 0#32
  let v194_r0 : BitVec 32 := Scalar.select v193_r0 c0_i32_176_r0 v192_r0
  let c0_i32_177_r0 : BitVec 32 := 0#32
  let v195_r0 : BitVec 32 := Scalar.addi v194_r0 c0_i32_177_r0
  let v201_r0 : BitVec 1 := Scalar.cmpi .ne v190_r0 v195_r0
  let c0_i32_78_r0 : BitVec 32 := 0#32
  let c1_i32_80_r0 : BitVec 32 := 1#32
  let arg6_r0 : BitVec 32 := Scf.iv c0_i32_78_r0 c1_i32_80_r0 k0_t1
  let c121_i32_r0 : BitVec 32 := 121#32
  let v202_r0 : BitVec 1 := Scalar.cmpi .sge arg6_r0 c121_i32_r0
  let true_183_r0 : BitVec 1 := 1#1
  let v203_r0 : BitVec 1 := Scalar.xori v202_r0 true_183_r0
  let v204_r0 : BitVec 1 := Scalar.andi v201_r0 v203_r0
  let true_184_r0 : BitVec 1 := 1#1
  let v205_r0 : BitVec 1 := Scalar.andi v204_r0 true_184_r0
  let v206_r0 : BitVec 32 := Scalar.extui v205_r0
  let c0_i32_185_r0 : BitVec 32 := 0#32
  let v207_r0 : BitVec 1 := Scalar.cmpi .ne v206_r0 c0_i32_185_r0
  v207_r0

def k0_off22 (arg7_r0 : BitVec 32) : Fin 3 → Nat :=
  let c8_i32_227_r0 : BitVec 32 := 8#32
  let v293_r0 : BitVec 32 := Scalar.remui arg7_r0 c8_i32_227_r0
  let c0_i32_229_r0 : BitVec 32 := 0#32
  let c0_i32_230_r0 : BitVec 32 := 0#32
  ![v293_r0.toNat, 0, 0]
def k0_off23 (arg11_r0 : BitVec 32) : Fin 2 → Nat :=
  let c256_i32_228_r0 : BitVec 32 := 256#32
  let true_174_r0 : BitVec 1 := 1#1
  let true_169_r0 : BitVec 1 := 1#1
  let true_164_r0 : BitVec 1 := 1#1
  let true_159_r0 : BitVec 1 := 1#1
  let true_154_r0 : BitVec 1 := 1#1
  let true_149_r0 : BitVec 1 := 1#1
  let true_144_r0 : BitVec 1 := 1#1
  let c1_i32_143_r0 : BitVec 32 := 1#32
  let v161_r0 : BitVec 32 := Scalar.addi arg11_r0 c1_i32_143_r0
  let v162_r0 : BitVec 32 := Scalar.select true_144_r0 v161_r0 arg11_r0
  let c128_i32_145_r0 : BitVec 32 := 128#32
  let v163_r0 : BitVec 1 := Scalar.cmpi .eq v162_r0 c128_i32_145_r0
  let c0_i32_146_r0 : BitVec 32 := 0#32
  let v164_r0 : BitVec 32 := Scalar.select v163_r0 c0_i32_146_r0 v162_r0
  let c1_i32_148_r0 : BitVec 32 := 1#32
  let v166_r0 : BitVec 32 := Scalar.addi v164_r0 c1_i32_148_r0
  let v167_r0 : BitVec 32 := Scalar.select true_149_r0 v166_r0 v164_r0
  let c128_i32_150_r0 : BitVec 32 := 128#32
  let v168_r0 : BitVec 1 := Scalar.cmpi .eq v167_r0 c128_i32_150_r0
  let c0_i32_151_r0 : BitVec 32 := 0#32
  let v169_r0 : BitVec 32 := Scalar.select v168_r0 c0_i32_151_r0 v167_r0
  let c1_i32_153_r0 : BitVec 32 := 1#32
  let v171_r0 : BitVec 32 := Scalar.addi v169_r0 c1_i32_153_r0
  let v172_r0 : BitVec 32 := Scalar.select true_154_r0 v171_r0 v169_r0
  let c128_i32_155_r0 : BitVec 32 := 128#32
  let v173_r0 : BitVec 1 := Scalar.cmpi .eq v172_r0 c128_i32_155_r0
  let c0_i32_156_r0 : BitVec 32 := 0#32
  let v174_r0 : BitVec 32 := Scalar.select v173_r0 c0_i32_156_r0 v172_r0
  let c1_i32_158_r0 : BitVec 32 := 1#32
  let v176_r0 : BitVec 32 := Scalar.addi v174_r0 c1_i32_158_r0
  let v177_r0 : BitVec 32 := Scalar.select true_159_r0 v176_r0 v174_r0
  let c128_i32_160_r0 : BitVec 32 := 128#32
  let v178_r0 : BitVec 1 := Scalar.cmpi .eq v177_r0 c128_i32_160_r0
  let c0_i32_161_r0 : BitVec 32 := 0#32
  let v179_r0 : BitVec 32 := Scalar.select v178_r0 c0_i32_161_r0 v177_r0
  let c1_i32_163_r0 : BitVec 32 := 1#32
  let v181_r0 : BitVec 32 := Scalar.addi v179_r0 c1_i32_163_r0
  let v182_r0 : BitVec 32 := Scalar.select true_164_r0 v181_r0 v179_r0
  let c128_i32_165_r0 : BitVec 32 := 128#32
  let v183_r0 : BitVec 1 := Scalar.cmpi .eq v182_r0 c128_i32_165_r0
  let c0_i32_166_r0 : BitVec 32 := 0#32
  let v184_r0 : BitVec 32 := Scalar.select v183_r0 c0_i32_166_r0 v182_r0
  let c1_i32_168_r0 : BitVec 32 := 1#32
  let v186_r0 : BitVec 32 := Scalar.addi v184_r0 c1_i32_168_r0
  let v187_r0 : BitVec 32 := Scalar.select true_169_r0 v186_r0 v184_r0
  let c128_i32_170_r0 : BitVec 32 := 128#32
  let v188_r0 : BitVec 1 := Scalar.cmpi .eq v187_r0 c128_i32_170_r0
  let c0_i32_171_r0 : BitVec 32 := 0#32
  let v189_r0 : BitVec 32 := Scalar.select v188_r0 c0_i32_171_r0 v187_r0
  let c1_i32_173_r0 : BitVec 32 := 1#32
  let v191_r0 : BitVec 32 := Scalar.addi v189_r0 c1_i32_173_r0
  let v192_r0 : BitVec 32 := Scalar.select true_174_r0 v191_r0 v189_r0
  let c128_i32_175_r0 : BitVec 32 := 128#32
  let v193_r0 : BitVec 1 := Scalar.cmpi .eq v192_r0 c128_i32_175_r0
  let c0_i32_176_r0 : BitVec 32 := 0#32
  let v194_r0 : BitVec 32 := Scalar.select v193_r0 c0_i32_176_r0 v192_r0
  let c0_i32_177_r0 : BitVec 32 := 0#32
  let v195_r0 : BitVec 32 := Scalar.addi v194_r0 c0_i32_177_r0
  let v294_r0 : BitVec 32 := Scalar.muli c256_i32_228_r0 v195_r0
  let c0_i32_231_r0 : BitVec 32 := 0#32
  ![v294_r0.toNat, 0]
def k0_off24 (arg8_r0 : BitVec 32) : Fin 1 → Nat :=
  let c8_i32_228_r0 : BitVec 32 := 8#32
  let v294_r0 : BitVec 32 := Scalar.remui arg8_r0 c8_i32_228_r0
  ![v294_r0.toNat]
def k0_cond8 (k0_t1 : Fin k0_t1_loop.trips) (arg11_r0 : BitVec 32) : BitVec 1 :=
  let c0_i32_137_r0 : BitVec 32 := 0#32
  let v155_r0 : BitVec 32 := Scalar.addi arg11_r0 c0_i32_137_r0
  let true_139_r0 : BitVec 1 := 1#1
  let c1_i32_138_r0 : BitVec 32 := 1#32
  let v156_r0 : BitVec 32 := Scalar.subi arg11_r0 c1_i32_138_r0
  let v157_r0 : BitVec 32 := Scalar.select true_139_r0 v156_r0 arg11_r0
  let c_m1_i32_140_r0 : BitVec 32 := 4294967295#32
  let v158_r0 : BitVec 1 := Scalar.cmpi .eq v157_r0 c_m1_i32_140_r0
  let c127_i32_141_r0 : BitVec 32 := 127#32
  let v159_r0 : BitVec 32 := Scalar.select v158_r0 c127_i32_141_r0 v157_r0
  let c0_i32_142_r0 : BitVec 32 := 0#32
  let v160_r0 : BitVec 32 := Scalar.addi v159_r0 c0_i32_142_r0
  let v215_r0 : BitVec 1 := Scalar.cmpi .ne v155_r0 v160_r0
  let c0_i32_78_r0 : BitVec 32 := 0#32
  let c1_i32_80_r0 : BitVec 32 := 1#32
  let arg6_r0 : BitVec 32 := Scf.iv c0_i32_78_r0 c1_i32_80_r0 k0_t1
  let c0_i32_135_r0 : BitVec 32 := 0#32
  let v153_r0 : BitVec 1 := Scalar.cmpi .eq arg6_r0 c0_i32_135_r0
  let v216_r0 : BitVec 1 := Scalar.ori v215_r0 v153_r0
  let c0_i32_190_r0 : BitVec 32 := 0#32
  let v217_r0 : BitVec 1 := Scalar.cmpi .sge arg6_r0 c0_i32_190_r0
  let v218_r0 : BitVec 1 := Scalar.andi v216_r0 v217_r0
  let v219_r0 : BitVec 32 := Scalar.extui v218_r0
  let c0_i32_191_r0 : BitVec 32 := 0#32
  let v220_r0 : BitVec 1 := Scalar.cmpi .ne v219_r0 c0_i32_191_r0
  v220_r0

def k0_off25 (arg8_r0 : BitVec 32) : Fin 3 → Nat :=
  let c8_i32_228_r0 : BitVec 32 := 8#32
  let v294_r0 : BitVec 32 := Scalar.remui arg8_r0 c8_i32_228_r0
  let c0_i32_229_r0 : BitVec 32 := 0#32
  let c0_i32_230_r0 : BitVec 32 := 0#32
  ![v294_r0.toNat, 0, 0]
def k0_off26 (arg11_r0 : BitVec 32) : Fin 2 → Nat :=
  let c256_i32_227_r0 : BitVec 32 := 256#32
  let c0_i32_137_r0 : BitVec 32 := 0#32
  let v155_r0 : BitVec 32 := Scalar.addi arg11_r0 c0_i32_137_r0
  let v293_r0 : BitVec 32 := Scalar.muli c256_i32_227_r0 v155_r0
  let c0_i32_231_r0 : BitVec 32 := 0#32
  ![v293_r0.toNat, 0]
def k0_off27 (arg8_r0 : BitVec 32) : Fin 3 → Nat :=
  let c8_i32_194_r0 : BitVec 32 := 8#32
  let v227_r0 : BitVec 32 := Scalar.remui arg8_r0 c8_i32_194_r0
  let v229_r0 : Index := Scalar.indexCast v227_r0
  let c0_r0 : Index := 0#32
  let c0_196_r0 : Index := 0#32
  ![v229_r0.toNat, 0, 0]

def k0_chk2 (arg8_r0 : BitVec 32) : Prop :=
  (∀ a, (k0_off27 arg8_r0) a + S1x256x4096.size a ≤ S8x256x4096.size a)
theorem k0_off27_inb : ∀ (arg8_r0 : BitVec 32) (k0_hw2 : k0_chk2 arg8_r0), ∀ a, (k0_off27 arg8_r0) a + S1x256x4096.size a ≤ S8x256x4096.size a := fun arg8_r0 k0_hw2 => k0_hw2

def k0_off28 (arg9_r0 : BitVec 32) : Fin 3 → Nat :=
  let c2_i32_195_r0 : BitVec 32 := 2#32
  let v228_r0 : BitVec 32 := Scalar.remui arg9_r0 c2_i32_195_r0
  let v255_r0 : Index := Scalar.indexCast v228_r0
  let c0_209_r0 : Index := 0#32
  let c0_210_r0 : Index := 0#32
  ![v255_r0.toNat, 0, 0]

def k0_chk3 (arg9_r0 : BitVec 32) : Prop :=
  (∀ a, (k0_off28 arg9_r0) a + S1x256x64.size a ≤ S2x256x64.size a)
theorem k0_off28_inb : ∀ (arg9_r0 : BitVec 32) (k0_hw3 : k0_chk3 arg9_r0), ∀ a, (k0_off28 arg9_r0) a + S1x256x64.size a ≤ S2x256x64.size a := fun arg9_r0 k0_hw3 => k0_hw3

def k0_off29 (arg9_r0 : BitVec 32) : Fin 1 → Nat :=
  let c2_i32_227_r0 : BitVec 32 := 2#32
  let v293_r0 : BitVec 32 := Scalar.remui arg9_r0 c2_i32_227_r0
  ![v293_r0.toNat]
def k0_cond11 (k0_t1 : Fin k0_t1_loop.trips) (arg11_r0 : BitVec 32) : BitVec 1 :=
  let c0_i32_137_r0 : BitVec 32 := 0#32
  let v155_r0 : BitVec 32 := Scalar.addi arg11_r0 c0_i32_137_r0
  let true_144_r0 : BitVec 1 := 1#1
  let c1_i32_143_r0 : BitVec 32 := 1#32
  let v161_r0 : BitVec 32 := Scalar.addi arg11_r0 c1_i32_143_r0
  let v162_r0 : BitVec 32 := Scalar.select true_144_r0 v161_r0 arg11_r0
  let c128_i32_145_r0 : BitVec 32 := 128#32
  let v163_r0 : BitVec 1 := Scalar.cmpi .eq v162_r0 c128_i32_145_r0
  let c0_i32_146_r0 : BitVec 32 := 0#32
  let v164_r0 : BitVec 32 := Scalar.select v163_r0 c0_i32_146_r0 v162_r0
  let c0_i32_147_r0 : BitVec 32 := 0#32
  let v165_r0 : BitVec 32 := Scalar.addi v164_r0 c0_i32_147_r0
  let v264_r0 : BitVec 1 := Scalar.cmpi .ne v155_r0 v165_r0
  let c0_i32_78_r0 : BitVec 32 := 0#32
  let c1_i32_80_r0 : BitVec 32 := 1#32
  let arg6_r0 : BitVec 32 := Scf.iv c0_i32_78_r0 c1_i32_80_r0 k0_t1
  let c127_i32_136_r0 : BitVec 32 := 127#32
  let v154_r0 : BitVec 1 := Scalar.cmpi .eq arg6_r0 c127_i32_136_r0
  let v265_r0 : BitVec 1 := Scalar.ori v264_r0 v154_r0
  let v266_r0 : BitVec 32 := Scalar.extui v265_r0
  let c0_i32_212_r0 : BitVec 32 := 0#32
  let v267_r0 : BitVec 1 := Scalar.cmpi .ne v266_r0 c0_i32_212_r0
  v267_r0

def k0_off30 (arg11_r0 : BitVec 32) : Fin 2 → Nat :=
  let c256_i32_228_r0 : BitVec 32 := 256#32
  let c0_i32_137_r0 : BitVec 32 := 0#32
  let v155_r0 : BitVec 32 := Scalar.addi arg11_r0 c0_i32_137_r0
  let v294_r0 : BitVec 32 := Scalar.muli c256_i32_228_r0 v155_r0
  let c0_i32_229_r0 : BitVec 32 := 0#32
  ![v294_r0.toNat, 0]
def k0_off31 (arg9_r0 : BitVec 32) : Fin 3 → Nat :=
  let c2_i32_227_r0 : BitVec 32 := 2#32
  let v293_r0 : BitVec 32 := Scalar.remui arg9_r0 c2_i32_227_r0
  let c0_i32_230_r0 : BitVec 32 := 0#32
  let c0_i32_231_r0 : BitVec 32 := 0#32
  ![v293_r0.toNat, 0, 0]
def k0_off32 (arg10_r0 : BitVec 32) : Fin 1 → Nat :=
  let c2_i32_227_r0 : BitVec 32 := 2#32
  let v293_r0 : BitVec 32 := Scalar.remui arg10_r0 c2_i32_227_r0
  ![v293_r0.toNat]
def k0_cond13 (k0_t1 : Fin k0_t1_loop.trips) (arg11_r0 : BitVec 32) : BitVec 1 :=
  let c0_i32_137_r0 : BitVec 32 := 0#32
  let v155_r0 : BitVec 32 := Scalar.addi arg11_r0 c0_i32_137_r0
  let true_139_r0 : BitVec 1 := 1#1
  let c1_i32_138_r0 : BitVec 32 := 1#32
  let v156_r0 : BitVec 32 := Scalar.subi arg11_r0 c1_i32_138_r0
  let v157_r0 : BitVec 32 := Scalar.select true_139_r0 v156_r0 arg11_r0
  let c_m1_i32_140_r0 : BitVec 32 := 4294967295#32
  let v158_r0 : BitVec 1 := Scalar.cmpi .eq v157_r0 c_m1_i32_140_r0
  let c127_i32_141_r0 : BitVec 32 := 127#32
  let v159_r0 : BitVec 32 := Scalar.select v158_r0 c127_i32_141_r0 v157_r0
  let c0_i32_142_r0 : BitVec 32 := 0#32
  let v160_r0 : BitVec 32 := Scalar.addi v159_r0 c0_i32_142_r0
  let v277_r0 : BitVec 1 := Scalar.cmpi .ne v155_r0 v160_r0
  let c0_i32_78_r0 : BitVec 32 := 0#32
  let c1_i32_80_r0 : BitVec 32 := 1#32
  let arg6_r0 : BitVec 32 := Scf.iv c0_i32_78_r0 c1_i32_80_r0 k0_t1
  let c0_i32_135_r0 : BitVec 32 := 0#32
  let v153_r0 : BitVec 1 := Scalar.cmpi .eq arg6_r0 c0_i32_135_r0
  let true_218_r0 : BitVec 1 := 1#1
  let v278_r0 : BitVec 1 := Scalar.xori v153_r0 true_218_r0
  let v279_r0 : BitVec 1 := Scalar.andi v277_r0 v278_r0
  let v280_r0 : BitVec 32 := Scalar.extui v279_r0
  let c0_i32_219_r0 : BitVec 32 := 0#32
  let v281_r0 : BitVec 1 := Scalar.cmpi .ne v280_r0 c0_i32_219_r0
  v281_r0

def k0_off33 (arg11_r0 : BitVec 32) : Fin 2 → Nat :=
  let c256_i32_228_r0 : BitVec 32 := 256#32
  let true_139_r0 : BitVec 1 := 1#1
  let c1_i32_138_r0 : BitVec 32 := 1#32
  let v156_r0 : BitVec 32 := Scalar.subi arg11_r0 c1_i32_138_r0
  let v157_r0 : BitVec 32 := Scalar.select true_139_r0 v156_r0 arg11_r0
  let c_m1_i32_140_r0 : BitVec 32 := 4294967295#32
  let v158_r0 : BitVec 1 := Scalar.cmpi .eq v157_r0 c_m1_i32_140_r0
  let c127_i32_141_r0 : BitVec 32 := 127#32
  let v159_r0 : BitVec 32 := Scalar.select v158_r0 c127_i32_141_r0 v157_r0
  let c0_i32_142_r0 : BitVec 32 := 0#32
  let v160_r0 : BitVec 32 := Scalar.addi v159_r0 c0_i32_142_r0
  let v294_r0 : BitVec 32 := Scalar.muli c256_i32_228_r0 v160_r0
  let c0_i32_229_r0 : BitVec 32 := 0#32
  ![v294_r0.toNat, 0]
def k0_off34 (arg10_r0 : BitVec 32) : Fin 3 → Nat :=
  let c2_i32_227_r0 : BitVec 32 := 2#32
  let v293_r0 : BitVec 32 := Scalar.remui arg10_r0 c2_i32_227_r0
  let c0_i32_230_r0 : BitVec 32 := 0#32
  let c0_i32_231_r0 : BitVec 32 := 0#32
  ![v293_r0.toNat, 0, 0]

def k0_chk1 (k0_t1 : Fin k0_t1_loop.trips) (arg7_r0 : BitVec 32) (arg8_r0 : BitVec 32) (arg9_r0 : BitVec 32) (arg10_r0 : BitVec 32) (arg11_r0 : BitVec 32) : Prop :=
  (∀ (k0_h7 : k0_cond7 k0_t1 arg11_r0 = 1#1), ∀ a, (k0_off21 arg7_r0) a + S1.size a ≤ S8.size a) ∧
  (∀ (k0_h7 : k0_cond7 k0_t1 arg11_r0 = 1#1), ∀ a, (k0_off22 arg7_r0) a + S1x256x4096.size a ≤ S8x256x4096.size a) ∧
  (∀ (k0_h7 : k0_cond7 k0_t1 arg11_r0 = 1#1), ∀ a, (k0_off23 arg11_r0) a + S256x4096.size a ≤ S32768x4096.size a) ∧
  (∀ (k0_h8 : k0_cond8 k0_t1 arg11_r0 = 1#1), ∀ a, (k0_off24 arg8_r0) a + S1.size a ≤ S8.size a) ∧
  (∀ (k0_h8 : k0_cond8 k0_t1 arg11_r0 = 1#1), ∀ a, (k0_off25 arg8_r0) a + S1x256x4096.size a ≤ S8x256x4096.size a) ∧
  (∀ (k0_h8 : k0_cond8 k0_t1 arg11_r0 = 1#1), ∀ a, (k0_off26 arg11_r0) a + S256x4096.size a ≤ S32768x4096.size a) ∧
  (∀ (k0_h11 : k0_cond11 k0_t1 arg11_r0 = 1#1), ∀ a, (k0_off29 arg9_r0) a + S1.size a ≤ S2.size a) ∧
  (∀ (k0_h11 : k0_cond11 k0_t1 arg11_r0 = 1#1), ∀ a, (k0_off30 arg11_r0) a + S256x64.size a ≤ S32768x64.size a) ∧
  (∀ (k0_h11 : k0_cond11 k0_t1 arg11_r0 = 1#1), ∀ a, (k0_off31 arg9_r0) a + S1x256x64.size a ≤ S2x256x64.size a) ∧
  (∀ (k0_h13 : k0_cond13 k0_t1 arg11_r0 = 1#1), ∀ a, (k0_off32 arg10_r0) a + S1.size a ≤ S2.size a) ∧
  (∀ (k0_h13 : k0_cond13 k0_t1 arg11_r0 = 1#1), ∀ a, (k0_off33 arg11_r0) a + S256x64.size a ≤ S32768x64.size a) ∧
  (∀ (k0_h13 : k0_cond13 k0_t1 arg11_r0 = 1#1), ∀ a, (k0_off34 arg10_r0) a + S1x256x64.size a ≤ S2x256x64.size a)
theorem k0_off21_inb : ∀ (k0_t1 : Fin k0_t1_loop.trips) (arg7_r0 : BitVec 32) (arg8_r0 : BitVec 32) (arg9_r0 : BitVec 32) (arg10_r0 : BitVec 32) (arg11_r0 : BitVec 32) (k0_hw1 : k0_chk1 k0_t1 arg7_r0 arg8_r0 arg9_r0 arg10_r0 arg11_r0), ∀ (k0_h7 : k0_cond7 k0_t1 arg11_r0 = 1#1), ∀ a, (k0_off21 arg7_r0) a + S1.size a ≤ S8.size a := fun k0_t1 arg7_r0 arg8_r0 arg9_r0 arg10_r0 arg11_r0 k0_hw1 k0_h7 => k0_hw1.1 k0_h7
theorem k0_off22_inb : ∀ (k0_t1 : Fin k0_t1_loop.trips) (arg7_r0 : BitVec 32) (arg8_r0 : BitVec 32) (arg9_r0 : BitVec 32) (arg10_r0 : BitVec 32) (arg11_r0 : BitVec 32) (k0_hw1 : k0_chk1 k0_t1 arg7_r0 arg8_r0 arg9_r0 arg10_r0 arg11_r0), ∀ (k0_h7 : k0_cond7 k0_t1 arg11_r0 = 1#1), ∀ a, (k0_off22 arg7_r0) a + S1x256x4096.size a ≤ S8x256x4096.size a := fun k0_t1 arg7_r0 arg8_r0 arg9_r0 arg10_r0 arg11_r0 k0_hw1 k0_h7 => k0_hw1.2.1 k0_h7
theorem k0_off23_inb : ∀ (k0_t1 : Fin k0_t1_loop.trips) (arg7_r0 : BitVec 32) (arg8_r0 : BitVec 32) (arg9_r0 : BitVec 32) (arg10_r0 : BitVec 32) (arg11_r0 : BitVec 32) (k0_hw1 : k0_chk1 k0_t1 arg7_r0 arg8_r0 arg9_r0 arg10_r0 arg11_r0), ∀ (k0_h7 : k0_cond7 k0_t1 arg11_r0 = 1#1), ∀ a, (k0_off23 arg11_r0) a + S256x4096.size a ≤ S32768x4096.size a := fun k0_t1 arg7_r0 arg8_r0 arg9_r0 arg10_r0 arg11_r0 k0_hw1 k0_h7 => k0_hw1.2.2.1 k0_h7
theorem k0_off24_inb : ∀ (k0_t1 : Fin k0_t1_loop.trips) (arg7_r0 : BitVec 32) (arg8_r0 : BitVec 32) (arg9_r0 : BitVec 32) (arg10_r0 : BitVec 32) (arg11_r0 : BitVec 32) (k0_hw1 : k0_chk1 k0_t1 arg7_r0 arg8_r0 arg9_r0 arg10_r0 arg11_r0), ∀ (k0_h8 : k0_cond8 k0_t1 arg11_r0 = 1#1), ∀ a, (k0_off24 arg8_r0) a + S1.size a ≤ S8.size a := fun k0_t1 arg7_r0 arg8_r0 arg9_r0 arg10_r0 arg11_r0 k0_hw1 k0_h8 => k0_hw1.2.2.2.1 k0_h8
theorem k0_off25_inb : ∀ (k0_t1 : Fin k0_t1_loop.trips) (arg7_r0 : BitVec 32) (arg8_r0 : BitVec 32) (arg9_r0 : BitVec 32) (arg10_r0 : BitVec 32) (arg11_r0 : BitVec 32) (k0_hw1 : k0_chk1 k0_t1 arg7_r0 arg8_r0 arg9_r0 arg10_r0 arg11_r0), ∀ (k0_h8 : k0_cond8 k0_t1 arg11_r0 = 1#1), ∀ a, (k0_off25 arg8_r0) a + S1x256x4096.size a ≤ S8x256x4096.size a := fun k0_t1 arg7_r0 arg8_r0 arg9_r0 arg10_r0 arg11_r0 k0_hw1 k0_h8 => k0_hw1.2.2.2.2.1 k0_h8
theorem k0_off26_inb : ∀ (k0_t1 : Fin k0_t1_loop.trips) (arg7_r0 : BitVec 32) (arg8_r0 : BitVec 32) (arg9_r0 : BitVec 32) (arg10_r0 : BitVec 32) (arg11_r0 : BitVec 32) (k0_hw1 : k0_chk1 k0_t1 arg7_r0 arg8_r0 arg9_r0 arg10_r0 arg11_r0), ∀ (k0_h8 : k0_cond8 k0_t1 arg11_r0 = 1#1), ∀ a, (k0_off26 arg11_r0) a + S256x4096.size a ≤ S32768x4096.size a := fun k0_t1 arg7_r0 arg8_r0 arg9_r0 arg10_r0 arg11_r0 k0_hw1 k0_h8 => k0_hw1.2.2.2.2.2.1 k0_h8
theorem k0_off29_inb : ∀ (k0_t1 : Fin k0_t1_loop.trips) (arg7_r0 : BitVec 32) (arg8_r0 : BitVec 32) (arg9_r0 : BitVec 32) (arg10_r0 : BitVec 32) (arg11_r0 : BitVec 32) (k0_hw1 : k0_chk1 k0_t1 arg7_r0 arg8_r0 arg9_r0 arg10_r0 arg11_r0), ∀ (k0_h11 : k0_cond11 k0_t1 arg11_r0 = 1#1), ∀ a, (k0_off29 arg9_r0) a + S1.size a ≤ S2.size a := fun k0_t1 arg7_r0 arg8_r0 arg9_r0 arg10_r0 arg11_r0 k0_hw1 k0_h11 => k0_hw1.2.2.2.2.2.2.1 k0_h11
theorem k0_off30_inb : ∀ (k0_t1 : Fin k0_t1_loop.trips) (arg7_r0 : BitVec 32) (arg8_r0 : BitVec 32) (arg9_r0 : BitVec 32) (arg10_r0 : BitVec 32) (arg11_r0 : BitVec 32) (k0_hw1 : k0_chk1 k0_t1 arg7_r0 arg8_r0 arg9_r0 arg10_r0 arg11_r0), ∀ (k0_h11 : k0_cond11 k0_t1 arg11_r0 = 1#1), ∀ a, (k0_off30 arg11_r0) a + S256x64.size a ≤ S32768x64.size a := fun k0_t1 arg7_r0 arg8_r0 arg9_r0 arg10_r0 arg11_r0 k0_hw1 k0_h11 => k0_hw1.2.2.2.2.2.2.2.1 k0_h11
theorem k0_off31_inb : ∀ (k0_t1 : Fin k0_t1_loop.trips) (arg7_r0 : BitVec 32) (arg8_r0 : BitVec 32) (arg9_r0 : BitVec 32) (arg10_r0 : BitVec 32) (arg11_r0 : BitVec 32) (k0_hw1 : k0_chk1 k0_t1 arg7_r0 arg8_r0 arg9_r0 arg10_r0 arg11_r0), ∀ (k0_h11 : k0_cond11 k0_t1 arg11_r0 = 1#1), ∀ a, (k0_off31 arg9_r0) a + S1x256x64.size a ≤ S2x256x64.size a := fun k0_t1 arg7_r0 arg8_r0 arg9_r0 arg10_r0 arg11_r0 k0_hw1 k0_h11 => k0_hw1.2.2.2.2.2.2.2.2.1 k0_h11
theorem k0_off32_inb : ∀ (k0_t1 : Fin k0_t1_loop.trips) (arg7_r0 : BitVec 32) (arg8_r0 : BitVec 32) (arg9_r0 : BitVec 32) (arg10_r0 : BitVec 32) (arg11_r0 : BitVec 32) (k0_hw1 : k0_chk1 k0_t1 arg7_r0 arg8_r0 arg9_r0 arg10_r0 arg11_r0), ∀ (k0_h13 : k0_cond13 k0_t1 arg11_r0 = 1#1), ∀ a, (k0_off32 arg10_r0) a + S1.size a ≤ S2.size a := fun k0_t1 arg7_r0 arg8_r0 arg9_r0 arg10_r0 arg11_r0 k0_hw1 k0_h13 => k0_hw1.2.2.2.2.2.2.2.2.2.1 k0_h13
theorem k0_off33_inb : ∀ (k0_t1 : Fin k0_t1_loop.trips) (arg7_r0 : BitVec 32) (arg8_r0 : BitVec 32) (arg9_r0 : BitVec 32) (arg10_r0 : BitVec 32) (arg11_r0 : BitVec 32) (k0_hw1 : k0_chk1 k0_t1 arg7_r0 arg8_r0 arg9_r0 arg10_r0 arg11_r0), ∀ (k0_h13 : k0_cond13 k0_t1 arg11_r0 = 1#1), ∀ a, (k0_off33 arg11_r0) a + S256x64.size a ≤ S32768x64.size a := fun k0_t1 arg7_r0 arg8_r0 arg9_r0 arg10_r0 arg11_r0 k0_hw1 k0_h13 => k0_hw1.2.2.2.2.2.2.2.2.2.2.1 k0_h13
theorem k0_off34_inb : ∀ (k0_t1 : Fin k0_t1_loop.trips) (arg7_r0 : BitVec 32) (arg8_r0 : BitVec 32) (arg9_r0 : BitVec 32) (arg10_r0 : BitVec 32) (arg11_r0 : BitVec 32) (k0_hw1 : k0_chk1 k0_t1 arg7_r0 arg8_r0 arg9_r0 arg10_r0 arg11_r0), ∀ (k0_h13 : k0_cond13 k0_t1 arg11_r0 = 1#1), ∀ a, (k0_off34 arg10_r0) a + S1x256x64.size a ≤ S2x256x64.size a := fun k0_t1 arg7_r0 arg8_r0 arg9_r0 arg10_r0 arg11_r0 k0_hw1 k0_h13 => k0_hw1.2.2.2.2.2.2.2.2.2.2.2 k0_h13

def k0_off35 (v95_3_r0 : BitVec 32) : Fin 1 → Nat :=
  let c2_i32_r0 : BitVec 32 := 2#32
  let v146_r0 : BitVec 32 := Scalar.remui v95_3_r0 c2_i32_r0
  ![v146_r0.toNat]

def k0_off36 (v95_4_r0 : BitVec 32) : Fin 2 → Nat :=
  let c256_i32_r0 : BitVec 32 := 256#32
  let true_83_r0 : BitVec 1 := 1#1
  let c1_i32_82_r0 : BitVec 32 := 1#32
  let v96_r0 : BitVec 32 := Scalar.subi v95_4_r0 c1_i32_82_r0
  let v97_r0 : BitVec 32 := Scalar.select true_83_r0 v96_r0 v95_4_r0
  let c_m1_i32_84_r0 : BitVec 32 := 4294967295#32
  let v98_r0 : BitVec 1 := Scalar.cmpi .eq v97_r0 c_m1_i32_84_r0
  let c127_i32_85_r0 : BitVec 32 := 127#32
  let v99_r0 : BitVec 32 := Scalar.select v98_r0 c127_i32_85_r0 v97_r0
  let c0_i32_86_r0 : BitVec 32 := 0#32
  let v100_r0 : BitVec 32 := Scalar.addi v99_r0 c0_i32_86_r0
  let v147_r0 : BitVec 32 := Scalar.muli c256_i32_r0 v100_r0
  let c0_i32_132_r0 : BitVec 32 := 0#32
  ![v147_r0.toNat, 0]

def k0_chk5 (v95_4_r0 : BitVec 32) : Prop :=
  (∀ a, (k0_off36 v95_4_r0) a + S256x64.size a ≤ S32768x64.size a)
theorem k0_off36_inb : ∀ (v95_4_r0 : BitVec 32) (k0_hw5 : k0_chk5 v95_4_r0), ∀ a, (k0_off36 v95_4_r0) a + S256x64.size a ≤ S32768x64.size a := fun v95_4_r0 k0_hw5 => k0_hw5

def k0_off37 (v95_3_r0 : BitVec 32) : Fin 3 → Nat :=
  let c2_i32_r0 : BitVec 32 := 2#32
  let v146_r0 : BitVec 32 := Scalar.remui v95_3_r0 c2_i32_r0
  let c0_i32_133_r0 : BitVec 32 := 0#32
  let c0_i32_134_r0 : BitVec 32 := 0#32
  ![v146_r0.toNat, 0, 0]

def k0_chk4 (v95_3_r0 : BitVec 32) : Prop :=
  (∀ a, (k0_off35 v95_3_r0) a + S1.size a ≤ S2.size a) ∧
  (∀ a, (k0_off37 v95_3_r0) a + S1x256x64.size a ≤ S2x256x64.size a)
theorem k0_off35_inb : ∀ (v95_3_r0 : BitVec 32) (k0_hw4 : k0_chk4 v95_3_r0), ∀ a, (k0_off35 v95_3_r0) a + S1.size a ≤ S2.size a := fun v95_3_r0 k0_hw4 => k0_hw4.1
theorem k0_off37_inb : ∀ (v95_3_r0 : BitVec 32) (k0_hw4 : k0_chk4 v95_3_r0), ∀ a, (k0_off37 v95_3_r0) a + S1x256x64.size a ≤ S2x256x64.size a := fun v95_3_r0 k0_hw4 => k0_hw4.2

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S32768x4096 : Shape := ⟨2, ![32768, 4096]⟩
abbrev S4096x128 : Shape := ⟨2, ![4096, 128]⟩
abbrev S128 : Shape := ⟨1, ![128]⟩
abbrev S128x64 : Shape := ⟨2, ![128, 64]⟩
abbrev S64 : Shape := ⟨1, ![64]⟩
abbrev S32768x128 : Shape := ⟨2, ![32768, 128]⟩
abbrev S1x128 : Shape := ⟨2, ![1, 128]⟩
abbrev S_ : Shape := ⟨0, ![]⟩
abbrev S32768x64 : Shape := ⟨2, ![32768, 64]⟩
abbrev S1x64 : Shape := ⟨2, ![1, 64]⟩
abbrev S32768 : Shape := ⟨1, ![32768]⟩
abbrev S32768x1 : Shape := ⟨2, ![32768, 1]⟩

abbrev nBuf : Space → Nat
  | .hbm => 30
  | .vmem => 0
  | .smem => 0
  | _ => 0

abbrev bufTy : (tb : Table) → Fin (tcTables nBuf tb) → BufTy
  | .hbm, ⟨0, _⟩ => ⟨S32768x4096, .f32⟩
  | .hbm, ⟨1, _⟩ => ⟨S4096x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S32768x128, .f32⟩
  | .hbm, ⟨6, _⟩ => ⟨S1x128, .f32⟩
  | .hbm, ⟨7, _⟩ => ⟨S32768x128, .f32⟩
  | .hbm, ⟨8, _⟩ => ⟨S32768x128, .f32⟩
  | .hbm, ⟨9, _⟩ => ⟨S_, .f32⟩
  | .hbm, ⟨10, _⟩ => ⟨S32768x128, .f32⟩
  | .hbm, ⟨11, _⟩ => ⟨S32768x128, .f32⟩
  | .hbm, ⟨12, _⟩ => ⟨S32768x64, .f32⟩
  | .hbm, ⟨13, _⟩ => ⟨S1x64, .f32⟩
  | .hbm, ⟨14, _⟩ => ⟨S32768x64, .f32⟩
  | .hbm, ⟨15, _⟩ => ⟨S32768x64, .f32⟩
  | .hbm, ⟨16, _⟩ => ⟨S_, .f32⟩
  | .hbm, ⟨17, _⟩ => ⟨S32768, .f32⟩
  | .hbm, ⟨18, _⟩ => ⟨S_, .f32⟩
  | .hbm, ⟨19, _⟩ => ⟨S32768, .f32⟩
  | .hbm, ⟨20, _⟩ => ⟨S32768, .f32⟩
  | .hbm, ⟨21, _⟩ => ⟨S32768x1, .f32⟩
  | .hbm, ⟨22, _⟩ => ⟨S32768x64, .f32⟩
  | .hbm, ⟨23, _⟩ => ⟨S32768x64, .f32⟩
  | .hbm, ⟨24, _⟩ => ⟨S32768x64, .f32⟩
  | .hbm, ⟨25, _⟩ => ⟨S_, .f32⟩
  | .hbm, ⟨26, _⟩ => ⟨S32768, .f32⟩
  | .hbm, ⟨27, _⟩ => ⟨S32768x1, .f32⟩
  | .hbm, ⟨28, _⟩ => ⟨S32768x64, .f32⟩
  | .hbm, ⟨29, _⟩ => ⟨S32768x64, .f32⟩
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Proof.Words.lean ====
/-
  The words of the pipeline's loop.

  The kernel walks 128 blocks of 256 rows. Its loop carries five words: how many blocks have been asked for,
  how many have been consumed, how many results have been sent, how many results have been waited for, and the
  block the trip works on. This module says what the five words are before trip `k` (`carry`), and what the
  program computes from them: the side conditions it assumes hold, each of its four conditionals goes a known
  way, and each slice starts where the ring says it should.

  All of it is closed arithmetic over the 128 trips.
-/
module

public import proofs.«01_k».proof.Defs
public import proofs.«01_k».proof.Proof.Gen.KernelIdeal.Skeleton
public import proofs.«01_k».proof.Proof.Gen.KernelIdeal.Loops
public import Idealize.ShloMosaic.Lib.Ring

@[expose] public section

set_option Elab.async false

namespace Cert.Proof.Router

open Cert.KernelIdeal Cert.KernelIdeal.Gen
open Idealize.ShloMosaic

/-! ## Where slices start -/

/-- Block `b` of the input: rows `256 b` on. -/
abbrev inOff (b : Fin 128) : Fin 2 → Nat := ![256 * b.val, 0]
/-- Slot `s` of the input ring. -/
abbrev islotOff (s : Fin 8) : Fin 3 → Nat := ![s.val, 0, 0]
/-- The semaphore of that slot. -/
abbrev isemOff (s : Fin 8) : Fin 1 → Nat := ![s.val]
/-- Slot `s` of the output ring. -/
abbrev oslotOff (s : Fin 2) : Fin 3 → Nat := ![s.val, 0, 0]
/-- The semaphore of that slot. -/
abbrev osemOff (s : Fin 2) : Fin 1 → Nat := ![s.val]

/-! ## The carried words -/

/-- Blocks asked for before trip `k`. -/
def w7 (k : ℕ) : BitVec 32 := BitVec.ofNat 32 (min (k + 7) 128)
/-- Blocks consumed before trip `k`. -/
def w8 (k : ℕ) : BitVec 32 := BitVec.ofNat 32 k
/-- Results waited for before trip `k`. -/
def w10 (k : ℕ) : BitVec 32 := BitVec.ofNat 32 (k - 1)
/-- The block trip `k` works on. -/
def w11 (k : ℕ) : BitVec 32 := BitVec.ofNat 32 (k % 128)

/-- What the loop carries before trip `k`. -/
abbrev carry (k : ℕ) : BitVec 32 × BitVec 32 × BitVec 32 × BitVec 32 × BitVec 32 := (w7 k, w8 k, w8 k, w10 k, w11 k)

theorem trips_eq : k0_t1_loop.trips = 128 := by decide
theorem trip_lt (k : Fin k0_t1_loop.trips) : k.val < 128 := Nat.lt_of_lt_of_eq k.isLt trips_eq

/-! ## What a trip assumes -/

theorem chk1_at : ∀ k : Fin k0_t1_loop.trips, k0_chk1 k (w7 k) (w8 k) (w8 k) (w10 k) (w11 k) := by decide +kernel
theorem chk2_at : ∀ k : Fin k0_t1_loop.trips, k0_chk2 (w8 k) := by decide +kernel
theorem chk3_at : ∀ k : Fin k0_t1_loop.trips, k0_chk3 (w8 k) := by decide +kernel
theorem chk4_end : k0_chk4 (w10 128) := by decide +kernel
theorem chk5_end : k0_chk5 (w11 128) := by decide +kernel

/-! ## Which way each conditional goes -/

/-- A trip asks for a further block while there is one. -/
theorem cond7_iff : ∀ k : Fin k0_t1_loop.trips, k0_cond7 k (w11 k) = 1#1 ↔ k.val < 121 := by decide +kernel
theorem cond8_at : ∀ k : Fin k0_t1_loop.trips, k0_cond8 k (w11 k) = 1#1 := by decide +kernel
theorem cond11_at : ∀ k : Fin k0_t1_loop.trips, k0_cond11 k (w11 k) = 1#1 := by decide +kernel
/-- Every trip but the first waits for the result before. -/
theorem cond13_iff : ∀ k : Fin k0_t1_loop.trips, k0_cond13 k (w11 k) = 1#1 ↔ 0 < k.val := by decide +kernel
theorem cond1_at : k0_cond1 = 1#1 := by decide +kernel
theorem cond2_at : k0_cond2 = 1#1 := by decide +kernel
theorem cond3_at : k0_cond3 = 1#1 := by decide +kernel
theorem cond4_at : k0_cond4 = 1#1 := by decide +kernel
theorem cond5_at : k0_cond5 = 1#1 := by decide +kernel
theorem cond6_at : k0_cond6 = 1#1 := by decide +kernel

/-! ## Where a trip's slices start -/

theorem off21_at : ∀ k : Fin k0_t1_loop.trips, k.val < 121 → k0_off21 (w7 k) = isemOff (Ring.sl 8 (k.val + 7)) := by decide +kernel
theorem off22_at : ∀ k : Fin k0_t1_loop.trips, k.val < 121 → k0_off22 (w7 k) = islotOff (Ring.sl 8 (k.val + 7)) := by decide +kernel
theorem off23_at : ∀ k : Fin k0_t1_loop.trips, k.val < 121 → k0_off23 (w11 k) = inOff (Ring.bk 128 (k.val + 7)) := by decide +kernel
theorem off24_at : ∀ k : Fin k0_t1_loop.trips, k0_off24 (w8 k) = isemOff (Ring.sl 8 k.val) := by decide +kernel
theorem off25_at : ∀ k : Fin k0_t1_loop.trips, k0_off25 (w8 k) = islotOff (Ring.sl 8 k.val) := by decide +kernel
theorem off26_at : ∀ k : Fin k0_t1_loop.trips, k0_off26 (w11 k) = inOff (Ring.bk 128 k.val) := by decide +kernel
theorem off27_at : ∀ k : Fin k0_t1_loop.trips, k0_off27 (w8 k) = islotOff (Ring.sl 8 k.val) := by decide +kernel
theorem off28_at : ∀ k : Fin k0_t1_loop.trips, k0_off28 (w8 k) = oslotOff (Ring.sl 2 k.val) := by decide +kernel
theorem off29_at : ∀ k : Fin k0_t1_loop.trips, k0_off29 (w8 k) = osemOff (Ring.sl 2 k.val) := by decide +kernel
theorem off30_at : ∀ k : Fin k0_t1_loop.trips, k0_off30 (w11 k) = inOff (Ring.bk 128 k.val) := by decide +kernel
theorem off31_at : ∀ k : Fin k0_t1_loop.trips, k0_off31 (w8 k) = oslotOff (Ring.sl 2 k.val) := by decide +kernel
theorem off32_at : ∀ k : Fin k0_t1_loop.trips, 0 < k.val → k0_off32 (w10 k) = osemOff (Ring.sl 2 (k.val + 1)) := by decide +kernel
theorem off33_at : ∀ k : Fin k0_t1_loop.trips, 0 < k.val → k0_off33 (w11 k) = inOff (Ring.bk 128 (k.val - 1)) := by decide +kernel
theorem off34_at : ∀ k : Fin k0_t1_loop.trips, 0 < k.val → k0_off34 (w10 k) = oslotOff (Ring.sl 2 (k.val + 1)) := by decide +kernel

/-! ## Where the prologue's and the last wait's slices start -/

theorem off1_at : k0_off1 = isemOff 0 := by decide +kernel
theorem off2_at : k0_off2 = islotOff 0 := by decide +kernel
theorem off3_at : k0_off3 = isemOff 1 := by decide +kernel
theorem off4_at : k0_off4 = islotOff 1 := by decide +kernel
theorem off5_at : k0_off5 = inOff 1 := by decide +kernel
theorem off6_at : k0_off6 = isemOff 2 := by decide +kernel
theorem off7_at : k0_off7 = islotOff 2 := by decide +kernel
theorem off8_at : k0_off8 = inOff 2 := by decide +kernel
theorem off9_at : k0_off9 = isemOff 3 := by decide +kernel
theorem off10_at : k0_off10 = islotOff 3 := by decide +kernel
theorem off11_at : k0_off11 = inOff 3 := by decide +kernel
theorem off12_at : k0_off12 = isemOff 4 := by decide +kernel
theorem off13_at : k0_off13 = islotOff 4 := by decide +kernel
theorem off14_at : k0_off14 = inOff 4 := by decide +kernel
theorem off15_at : k0_off15 = isemOff 5 := by decide +kernel
theorem off16_at : k0_off16 = islotOff 5 := by decide +kernel
theorem off17_at : k0_off17 = inOff 5 := by decide +kernel
theorem off18_at : k0_off18 = isemOff 6 := by decide +kernel
theorem off19_at : k0_off19 = islotOff 6 := by decide +kernel
theorem off20_at : k0_off20 = inOff 6 := by decide +kernel
theorem off35_end : k0_off35 (w10 128) = osemOff 1 := by decide +kernel
theorem off36_end : k0_off36 (w11 128) = inOff 127 := by decide +kernel
theorem off37_end : k0_off37 (w10 128) = oslotOff 1 := by decide +kernel

end Cert.Proof.Router
-- ==== Proof.Names.lean ====
/-
  The pieces the pipeline moves, under one name each.

  The input is 128 blocks of 256 rows (`xblk b`), the result is 128 blocks of 256 rows (`oblk b`). Input blocks travel
  through a ring of eight slots (`islot s`), results through a ring of two (`oslot s`); each slot has its own
  semaphore (`ism s`, `osm s`). The program spells each of these as a slice at computed offsets: here every
  spelling is said to be the named piece.
-/
module

public import proofs.«01_k».proof.Proof.Words
public import proofs.«01_k».proof.Proof.Gen.KernelIdeal.Launch
public import proofs.«01_k».proof.Proof.Gen.KernelIdeal.Points
public import Idealize.ShloMosaic.Lib.Pipeline.KitQuiescent
public import Idealize.ShloMosaic.Lib.Ring
public import Idealize.ShloMosaic.Lib.Affine
public import Idealize.ShloMosaic.Lib.Tactic

@[expose] public section

noncomputable section

namespace Cert.Proof.Router

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- What the proof counts with: the launch's own resources beside the counters the kernel's transfers ride on. -/
abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

omit [FloatOps F] in
theorem entails_of_eq {P Q : sProp 𝕄} (e : P = Q) : P ⊢ Q := e ▸ .rfl

/-! ## The whole buffers -/

abbrev xM : Memref sig .tc .hbm S32768x4096 .f32 := Memref.whole main_arg0
abbrev yM : Memref sig .tc .hbm S32768x64 .f32 := Memref.whole main_v2
abbrev iM : Memref sig .tc .vmem S8x256x4096 .f32 := Memref.whole cc0_scoped0
abbrev oM : Memref sig .tc .vmem S2x256x64 .f32 := Memref.whole cc0_scoped2

/-! ## Every piece lies inside its buffer -/

theorem inOff_inb (b : Fin 128) : ∀ a, inOff b a + S256x4096.size a ≤ S32768x4096.size a := by
  have := b.isLt; intro a; fin_cases a
  · show 256 * b.val + 256 ≤ 32768; omega
  · show 0 + 4096 ≤ 4096; omega
theorem outOff_inb (b : Fin 128) : ∀ a, inOff b a + S256x64.size a ≤ S32768x64.size a := by
  have := b.isLt; intro a; fin_cases a
  · show 256 * b.val + 256 ≤ 32768; omega
  · show 0 + 64 ≤ 64; omega
theorem islotOff_inb (s : Fin 8) : ∀ a, islotOff s a + S1x256x4096.size a ≤ S8x256x4096.size a := by
  have := s.isLt; intro a; fin_cases a
  · show s.val + 1 ≤ 8; omega
  · show 0 + 256 ≤ 256; omega
  · show 0 + 4096 ≤ 4096; omega
theorem oslotOff_inb (s : Fin 2) : ∀ a, oslotOff s a + S1x256x64.size a ≤ S2x256x64.size a := by
  have := s.isLt; intro a; fin_cases a
  · show s.val + 1 ≤ 2; omega
  · show 0 + 256 ≤ 256; omega
  · show 0 + 64 ≤ 64; omega
theorem isemOff_inb (s : Fin 8) : ∀ a, isemOff s a + S1.size a ≤ S8.size a := by
  have := s.isLt; intro a; fin_cases a; show s.val + 1 ≤ 8; omega
theorem osemOff_inb (s : Fin 2) : ∀ a, osemOff s a + S1.size a ≤ S2.size a := by
  have := s.isLt; intro a; fin_cases a; show s.val + 1 ≤ 2; omega

/-! ## The pieces -/

/-- Block `b` of the input. -/
def xblk (b : Fin 128) : Memref sig .tc .hbm S256x4096 .f32 :=
  xM.slice (Rect.unit (s := S32768x4096) (inOff b) S256x4096.size (inOff_inb b)) (fun _ => rfl)
/-- Block `b` of the result. -/
def oblk (b : Fin 128) : Memref sig .tc .hbm S256x64 .f32 :=
  yM.slice (Rect.unit (s := S32768x64) (inOff b) S256x64.size (outOff_inb b)) (fun _ => rfl)
/-- Slot `s` of the input ring. -/
def islot (s : Fin 8) : Memref sig .tc .vmem S256x4096 .f32 :=
  (iM.slice (Rect.unit (s := S8x256x4096) (islotOff s) S1x256x4096.size (islotOff_inb s)) (fun _ => rfl)).squeeze S256x4096 squeezes_S1x256x4096_S256x4096
/-- Slot `s` of the output ring. -/
def oslot (s : Fin 2) : Memref sig .tc .vmem S256x64 .f32 :=
  (oM.slice (Rect.unit (s := S2x256x64) (oslotOff s) S1x256x64.size (oslotOff_inb s)) (fun _ => rfl)).squeeze S256x64 squeezes_S1x256x64_S256x64
/-- The semaphore of input slot `s`. -/
def ism (s : Fin 8) : DmaSems sig S_ := (cc0_scoped1.slice (Rect.unit (s := S8) (isemOff s) S1.size (isemOff_inb s))).squeeze S_ squeezes_S1_S_
/-- The semaphore of output slot `s`. -/
def osm (s : Fin 2) : DmaSems sig S_ := (cc0_scoped3.slice (Rect.unit (s := S2) (osemOff s) S1.size (osemOff_inb s))).squeeze S_ squeezes_S1_S_

instance (s : Fin 8) : ClosedOff (islotOff s) := ⟨islotOff s, rfl⟩
instance (s : Fin 2) : ClosedOff (oslotOff s) := ⟨oslotOff s, rfl⟩
instance (b : Fin 128) : ClosedOff (inOff b) := ⟨inOff b, rfl⟩
instance (k : Fin k0_t1_loop.trips) : ClosedOff (k0_off27 (w8 k)) := ⟨islotOff (Ring.sl 8 k.val), off27_at k⟩
instance (k : Fin k0_t1_loop.trips) : ClosedOff (k0_off28 (w8 k)) := ⟨oslotOff (Ring.sl 2 k.val), off28_at k⟩

/-! ## A slice at the right offsets is the piece -/

theorem ism_congr {off : Fin 1 → Nat} {s : Fin 8} (e : off = isemOff s) (hh) :
    (cc0_scoped1.slice (Rect.unit (s := S8) off S1.size hh)).squeeze S_ squeezes_S1_S_ = ism s :=
  congrArg (fun A : DmaSems sig S1 => A.squeeze S_ squeezes_S1_S_) (SemArray.slice_unit_congr _ e _ _)
theorem osm_congr {off : Fin 1 → Nat} {s : Fin 2} (e : off = osemOff s) (hh) :
    (cc0_scoped3.slice (Rect.unit (s := S2) off S1.size hh)).squeeze S_ squeezes_S1_S_ = osm s :=
  congrArg (fun A : DmaSems sig S1 => A.squeeze S_ squeezes_S1_S_) (SemArray.slice_unit_congr _ e _ _)
theorem xblk_congr {off : Fin 2 → Nat} {b : Fin 128} (e : off = inOff b) (hh hs) :
    xM.slice (Rect.unit (s := S32768x4096) off S256x4096.size hh) hs = xblk b := Memref.slice_unit_congr _ e _ _ _ (fun _ => rfl)
theorem oblk_congr {off : Fin 2 → Nat} {b : Fin 128} (e : off = inOff b) (hh hs) :
    yM.slice (Rect.unit (s := S32768x64) off S256x64.size hh) hs = oblk b := Memref.slice_unit_congr _ e _ _ _ (fun _ => rfl)
theorem islot_congr {off : Fin 3 → Nat} {s : Fin 8} (e : off = islotOff s) (hh hs) :
    (iM.slice (Rect.unit (s := S8x256x4096) off S1x256x4096.size hh) hs).squeeze S256x4096 squeezes_S1x256x4096_S256x4096 = islot s :=
  congrArg (fun M : Memref sig .tc .vmem S1x256x4096 .f32 => M.squeeze S256x4096 squeezes_S1x256x4096_S256x4096) (Memref.slice_unit_congr _ e _ _ _ _)
theorem oslot_congr {off : Fin 3 → Nat} {s : Fin 2} (e : off = oslotOff s) (hh hs) :
    (oM.slice (Rect.unit (s := S2x256x64) off S1x256x64.size hh) hs).squeeze S256x64 squeezes_S1x256x64_S256x64 = oslot s :=
  congrArg (fun M : Memref sig .tc .vmem S1x256x64 .f32 => M.squeeze S256x64 squeezes_S1x256x64_S256x64) (Memref.slice_unit_congr _ e _ _ _ _)

/-! ### In trip `k` -/

section Trip
variable (k : Fin k0_t1_loop.trips)

@[sl_canon] theorem ism_ask (hk : k.val < 121) (hh) :
    (cc0_scoped1.slice (Rect.unit (s := S8) (k0_off21 (w7 k)) S1.size hh)).squeeze S_ squeezes_S1_S_ = ism (Ring.sl 8 (k.val + 7)) := ism_congr (off21_at k hk) _
@[sl_canon] theorem islot_ask (hk : k.val < 121) (hh hs) :
    (iM.slice (Rect.unit (s := S8x256x4096) (k0_off22 (w7 k)) S1x256x4096.size hh) hs).squeeze S256x4096 squeezes_S1x256x4096_S256x4096 = islot (Ring.sl 8 (k.val + 7)) := islot_congr (off22_at k hk) _ _
@[sl_canon] theorem xblk_ask (hk : k.val < 121) (hh hs) :
    xM.slice (Rect.unit (s := S32768x4096) (k0_off23 (w11 k)) S256x4096.size hh) hs = xblk (Ring.bk 128 (k.val + 7)) := xblk_congr (off23_at k hk) _ _
@[sl_canon] theorem ism_take (hh) :
    (cc0_scoped1.slice (Rect.unit (s := S8) (k0_off24 (w8 k)) S1.size hh)).squeeze S_ squeezes_S1_S_ = ism (Ring.sl 8 k.val) := ism_congr (off24_at k) _
@[sl_canon] theorem islot_take (hh hs) :
    (iM.slice (Rect.unit (s := S8x256x4096) (k0_off25 (w8 k)) S1x256x4096.size hh) hs).squeeze S256x4096 squeezes_S1x256x4096_S256x4096 = islot (Ring.sl 8 k.val) := islot_congr (off25_at k) _ _
@[sl_canon] theorem xblk_take (hh hs) :
    xM.slice (Rect.unit (s := S32768x4096) (k0_off26 (w11 k)) S256x4096.size hh) hs = xblk (Ring.bk 128 k.val) := xblk_congr (off26_at k) _ _
@[sl_canon] theorem osm_send (hh) :
    (cc0_scoped3.slice (Rect.unit (s := S2) (k0_off29 (w8 k)) S1.size hh)).squeeze S_ squeezes_S1_S_ = osm (Ring.sl 2 k.val) := osm_congr (off29_at k) _
@[sl_canon] theorem oblk_send (hh hs) :
    yM.slice (Rect.unit (s := S32768x64) (k0_off30 (w11 k)) S256x64.size hh) hs = oblk (Ring.bk 128 k.val) := oblk_congr (off30_at k) _ _
@[sl_canon] theorem oslot_send (hh hs) :
    (oM.slice (Rect.unit (s := S2x256x64) (k0_off31 (w8 k)) S1x256x64.size hh) hs).squeeze S256x64 squeezes_S1x256x64_S256x64 = oslot (Ring.sl 2 k.val) := oslot_congr (off31_at k) _ _
@[sl_canon] theorem osm_done (hk : 0 < k.val) (hh) :
    (cc0_scoped3.slice (Rect.unit (s := S2) (k0_off32 (w10 k)) S1.size hh)).squeeze S_ squeezes_S1_S_ = osm (Ring.sl 2 (k.val + 1)) := osm_congr (off32_at k hk) _
@[sl_canon] theorem oblk_done (hk : 0 < k.val) (hh hs) :
    yM.slice (Rect.unit (s := S32768x64) (k0_off33 (w11 k)) S256x64.size hh) hs = oblk (Ring.bk 128 (k.val - 1)) := oblk_congr (off33_at k hk) _ _
@[sl_canon] theorem oslot_done (hk : 0 < k.val) (hh hs) :
    (oM.slice (Rect.unit (s := S2x256x64) (k0_off34 (w10 k)) S1x256x64.size hh) hs).squeeze S256x64 squeezes_S1x256x64_S256x64 = oslot (Ring.sl 2 (k.val + 1)) := oslot_congr (off34_at k hk) _ _

end Trip

/-! ## What is held of each piece -/

section Pieces
variable (c : Dev nD)

abbrev icell (s : Fin 8) : sProp 𝕄 := semVal ((c : Thread nD τ), SemLoc.dma (ism s).sem) 0
abbrev ocell (s : Fin 2) : sProp 𝕄 := semVal ((c : Thread nD τ), SemLoc.dma (osm s).sem) 0
abbrev islotP (s : Fin 8) (f : Buf (Elt F) ((islot s).view.loc (c : Thread nD τ))) : sProp 𝕄 :=
  (islot s).view.loc (c : Thread nD τ) ↦[(islot s).view.set]{fullShare} f
abbrev oslotP (s : Fin 2) (f : Buf (Elt F) ((oslot s).view.loc (c : Thread nD τ))) : sProp 𝕄 :=
  (oslot s).view.loc (c : Thread nD τ) ↦[(oslot s).view.set]{fullShare} f
abbrev xblkP (X : Buf (Elt F) (xM.view.loc (c : Thread nD τ))) (b : Fin 128) : sProp 𝕄 :=
  (xblk b).view.loc (c : Thread nD τ) ↦[(xblk b).view.set]{fullShare} X
abbrev oblkP (b : Fin 128) (f : Buf (Elt F) ((oblk b).view.loc (c : Thread nD τ))) : sProp 𝕄 :=
  (oblk b).view.loc (c : Thread nD τ) ↦[(oblk b).view.set]{fullShare} f

/-- The elements of input block `b`, as a slot receives them. -/
abbrev rowsOf (X : Buf (Elt F) (xM.view.loc (c : Thread nD τ))) (b : Fin 128) : S256x4096.Idx → Elt F .f32 :=
  ReadAs.same.apply ((xblk b).view.read (Elt F) X)
/-- Input slot `s` once block `b` has arrived over `f`. -/
abbrev filled (X : Buf (Elt F) (xM.view.loc (c : Thread nD τ))) (s : Fin 8) (b : Fin 128) (f : Buf (Elt F) ((islot s).view.loc (c : Thread nD τ))) :
    Buf (Elt F) ((islot s).view.loc (c : Thread nD τ)) :=
  (islot s).view.writes (Elt F) f [⟨Rect.whole S256x4096, rowsOf c X b⟩]
/-- Input slot `s` waiting for block `b`, asked for when the slot held `f`. -/
abbrev inFlight (X : Buf (Elt F) (xM.view.loc (c : Thread nD τ))) (s : Fin 8) (b : Fin 128) (f : Buf (Elt F) ((islot s).view.loc (c : Thread nD τ))) : sProp 𝕄 :=
  Transfers.Flight countersEmb (c : Thread nD τ) (SemLoc.dma (ism s).sem) () 131072 iprop(islotP c s (filled c X s b f) ∗ xblkP c X b)
/-- Result block `b` on its way out of slot `s`, which holds `t`; the block held `f` before. -/
abbrev outFlight (s : Fin 2) (b : Fin 128) (f : Buf (Elt F) ((oblk b).view.loc (c : Thread nD τ))) (t : Buf (Elt F) ((oslot s).view.loc (c : Thread nD τ))) : sProp 𝕄 :=
  Transfers.Flight countersEmb (c : Thread nD τ) (SemLoc.dma (osm s).sem) () 4096
    iprop(oblkP c b ((oblk b).view.writes (Elt F) f [⟨Rect.whole S256x64, ReadAs.same.apply ((oslot s).view.read (Elt F) t)⟩]) ∗ oslotP c s t)

end Pieces

end Cert.Proof.Router

end
-- ==== Proof.Tile.lean ====
/-
  What one trip stores: the tile of a block.

  A trip reads the 256 rows its input slot holds and the four whole parameters, computes the tile `tile`, stores it
  into its output slot and sends the slot to the block's rows of the result. Here: a full slot reads as the block's
  rows, a stored slot reads as the tile, and the result's blocks are those of one array `outAll`.
-/
module

public import proofs.«01_k».proof.Proof.Names
public import Idealize.ShloMosaic.Lib.Pipeline.Value
public import Idealize.ShloMosaic.Lib.ViewIndex

@[expose] public section

noncomputable section

namespace Cert.Proof.Router

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

/-- The four parameters, by the values the kernel loads. -/
structure Params (F : FTy → Type) where
  w1 : S4096x128.Idx → Elt F .f32
  b1 : S1x128.Idx → Elt F .f32
  w2 : S128x64.Idx → Elt F .f32
  b2 : S1x64.Idx → Elt F .f32

/-- The tile of 256 rows `x`: softmax of the two-layer logits. -/
def tile (p : Params F) (x : S256x4096.Idx → Elt F .f32) : S256x64.Idx → Elt F .f32 :=
  shapeCast S256x64 (k0_pay2 (k0_pay1 (shapeCast S1x256x4096 x (by decide)) p.w1 p.b1 p.w2 p.b2)) shapeCasts_S1x256x64_S256x64

/-! ## The slots read -/

omit [FloatOps F] in
/-- A full input slot, loaded through the ring, is the rows that arrived. -/
theorem slot_load {off : Fin 3 → Nat} {s : Fin 8} (e : off = islotOff s) (hh) (f : iM.view.ty.Contents (Elt F)) (x : S256x4096.Idx → Elt F .f32) :
    (iM.view.readAt (Elt F) (Rect.unit (s := S8x256x4096) off S1x256x4096.size hh).toLoadRect
        ((islot s).view.writes (Elt F) f [⟨Rect.whole S256x4096, x⟩]) : S1x256x4096.Idx → Elt F .f32)
      = shapeCast S1x256x4096 x (by decide) := by
  subst e
  have h : (islot s).view.read (Elt F) ((islot s).view.writes (Elt F) f [⟨Rect.whole S256x4096, x⟩]) = x := View.read_writes_whole _ _ _
  have h' : (islot s).view.read (Elt F) ((islot s).view.writes (Elt F) f [⟨Rect.whole S256x4096, x⟩])
      = shapeCast S256x4096 (iM.view.readAt (Elt F) (Rect.unit (s := S8x256x4096) (islotOff s) S1x256x4096.size hh).toLoadRect
        ((islot s).view.writes (Elt F) f [⟨Rect.whole S256x4096, x⟩]) : S1x256x4096.Idx → Elt F .f32) shapeCasts_S1x256x4096_S256x4096 :=
    Memref.read_squeeze_slice iM (Rect.unit (s := S8x256x4096) (islotOff s) S1x256x4096.size hh) (fun _ => rfl) squeezes_S1x256x4096_S256x4096 _ _
  rw [h] at h'
  conv_rhs => rw [h']
  exact (shapeCast_shapeCast _ _ _).symm

omit [FloatOps F] in
/-- A squeezed slice read after a store through the slice: the stored vector, in the squeezed shape. -/
theorem read_squeeze_stored {cs : Space} {s s' : Shape} (M : Memref sig .tc cs s .f32) (r : Rect s) (hr : ∀ a, r.stride a = 1) (hq : r.shape.Squeezes s')
    (hc : r.shape.ShapeCasts s') (f : M.view.ty.Contents (Elt F)) (y : r.shape.Idx → Elt F .f32) :
    ((M.slice r hr).squeeze s' hq).view.read (Elt F) (View.write (Elt F) (M.access r) f y Finset.univ) = shapeCast s' y hc := by
  funext j
  exact congrFun (View.read_write_univ (v := M.access r) f y) (Shape.reshapeEquiv hq.numel_eq j)

omit [FloatOps F] in
/-- An output slot, stored through the ring, reads as what was stored. -/
theorem slot_stored {off : Fin 3 → Nat} {s : Fin 2} (e : off = oslotOff s) (hh) (f : oM.view.ty.Contents (Elt F)) (y : S1x256x64.Idx → Elt F .f32) :
    (oslot s).view.read (Elt F) (View.write (Elt F) (oM.access (Rect.unit (s := S2x256x64) off S1x256x64.size hh)) f y Finset.univ)
      = shapeCast S256x64 y shapeCasts_S1x256x64_S256x64 := by
  subst e
  exact read_squeeze_stored oM (Rect.unit (s := S2x256x64) (oslotOff s) S1x256x64.size hh) (fun _ => rfl) squeezes_S1x256x64_S256x64 _ f y

omit [FloatOps F] in
/-- A load of a whole array reads the array. -/
theorem whole_load {s : Shape} {cs : Space} (M : Memref sig .tc cs s .f32) {off : Fin s.rank → Nat} (e : off = fun _ => 0) (hh) (g : M.view.ty.Contents (Elt F)) :
    (M.view.readAt (Elt F) (Rect.unit off s.size hh).toLoadRect g : s.Idx → Elt F .f32) = M.view.read (Elt F) g := by
  subst e
  funext x
  exact congrArg (M.view.read (Elt F) g) (funext fun a => Fin.ext (by show 0 + 1 * (x a).val = (x a).val; omega))

/-! ## The result, whole -/

/-- The rows of block `b`. -/
def rowsAt (X : S32768x4096.Idx → Elt F .f32) (b : Fin 128) : S256x4096.Idx → Elt F .f32 :=
  fun j => X ((Rect.unit (s := S32768x4096) (inOff b) S256x4096.size (inOff_inb b)).emb j)

/-- The block a row of the result lies in, and its place there. -/
def blockOf (y : S32768x64.Idx) : Fin 128 := ⟨(y 0).val / 256, by have : (y 0).val < 32768 := (y 0).isLt; omega⟩
def placeIn (y : S32768x64.Idx) : S256x64.Idx := fun a => match a with
  | ⟨0, _⟩ => ⟨(y 0).val % 256, Nat.mod_lt _ (by decide)⟩
  | ⟨1, _⟩ => ⟨(y 1).val, (y 1).isLt⟩

/-- The whole result: each block's tile. -/
def outAll (p : Params F) (X : S32768x4096.Idx → Elt F .f32) : S32768x64.Idx → Elt F .f32 :=
  fun y => tile p (rowsAt X (blockOf y)) (placeIn y)

/-- Block `b` of the whole result is the tile of block `b`. -/
theorem outAll_block (p : Params F) (X : S32768x4096.Idx → Elt F .f32) (b : Fin 128) (j : S256x64.Idx) :
    outAll p X ((Rect.unit (s := S32768x64) (inOff b) S256x64.size (outOff_inb b)).emb j) = tile p (rowsAt X b) j := by
  have h0 : (j 0).val < 256 := (j 0).isLt
  have e0 : (((Rect.unit (s := S32768x64) (inOff b) S256x64.size (outOff_inb b)).emb j) 0).val = 256 * b.val + 1 * (j 0).val := rfl
  have e1 : (((Rect.unit (s := S32768x64) (inOff b) S256x64.size (outOff_inb b)).emb j) 1).val = 0 + 1 * (j 1).val := rfl
  have hb : blockOf ((Rect.unit (s := S32768x64) (inOff b) S256x64.size (outOff_inb b)).emb j) = b := Fin.ext (by
    show (((Rect.unit (s := S32768x64) (inOff b) S256x64.size (outOff_inb b)).emb j) 0).val / 256 = b.val
    rw [e0]; omega)
  have hp : placeIn ((Rect.unit (s := S32768x64) (inOff b) S256x64.size (outOff_inb b)).emb j) = j := by
    funext a
    match a with
    | ⟨0, _⟩ => exact Fin.ext (by
        show (((Rect.unit (s := S32768x64) (inOff b) S256x64.size (outOff_inb b)).emb j) 0).val % 256 = (j 0).val
        rw [e0]; omega)
    | ⟨1, _⟩ => exact Fin.ext (by
        show (((Rect.unit (s := S32768x64) (inOff b) S256x64.size (outOff_inb b)).emb j) 1).val = (j 1).val
        rw [e1]; omega)
  unfold outAll
  rw [hb, hp]

section
variable (c : Dev nD)

/-- A result block holding its tile is that block of the whole result. -/
theorem oblkP_tile (p : Params F) (X : S32768x4096.Idx → Elt F .f32) (b : Fin 128) (f : Buf (Elt F) ((oblk b).view.loc (c : Thread nD τ))) :
    (oblkP c b ((oblk b).view.writes (Elt F) f [⟨Rect.whole S256x64, tile p (rowsAt X b)⟩]) : sProp 𝕄) = oblkP c b (outAll p X) := by
  refine pointsTo_congr fun i hi => ?_
  obtain ⟨j, -, rfl⟩ := Finset.mem_map.mp hi
  have h := congrFun (View.read_writes_whole (oblk b).view f (tile p (rowsAt X b))) j
  refine View.eq_of_read_eq (v := (oblk b).view) (h.trans (outAll_block p X b j).symm)

end

end Cert.Proof.Router

end
-- ==== Proof.Trip.lean ====
/-
  One trip of the loop, for block `k`.

  A trip asks for block `k + 7` while there is one, waits for block `k`, computes and stores its tile, sends the tile
  to the result and, but for the first trip, waits for the tile sent before. The three kinds of trip (the first, those
  that ask, those that no longer ask) are run here on just the pieces each one touches.
-/
module

public import proofs.«01_k».proof.Proof.Tile

@[expose] public section

noncomputable section

namespace Cert.Proof.Router

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

section
variable (c : Dev nD) (X : Buf (Elt F) (xM.view.loc (c : Thread nD τ))) (p : Params F)
  (arg1 : Memref sig .tc .vmem S4096x128 .f32) (harg1 : arg1.IsWhole) (arg2 : Memref sig .tc .vmem S1x128 .f32) (harg2 : arg2.IsWhole)
  (arg3 : Memref sig .tc .vmem S128x64 .f32) (harg3 : arg3.IsWhole) (arg4 : Memref sig .tc .vmem S1x64 .f32) (harg4 : arg4.IsWhole)
  (u v : BitVec 32)
  (g1 : Buf (Elt F) (arg1.view.loc (c : Thread nD τ))) (g2 : Buf (Elt F) (arg2.view.loc (c : Thread nD τ)))
  (g3 : Buf (Elt F) (arg3.view.loc (c : Thread nD τ))) (g4 : Buf (Elt F) (arg4.view.loc (c : Thread nD τ)))

/-! ## What a trip is given and leaves -/

/-- An input slot with nothing on its way to it. -/
def freeI (s : Fin 8) : sProp 𝕄 := iprop(icell c s ∗ ∃ f, islotP c s f)
/-- An input slot that block `b` is on its way to. -/
def flyI (s : Fin 8) (b : Fin 128) : sProp 𝕄 := iprop(∃ f, inFlight c X s b f)
/-- An output slot with nothing on its way from it. -/
def freeO (s : Fin 2) : sProp 𝕄 := iprop(ocell c s ∗ ∃ t, oslotP c s t)
/-- A result block not yet written. -/
def homeO (b : Fin 128) : sProp 𝕄 := iprop(∃ f, oblkP c b f)
/-- The tile of block `b` on its way out of an output slot. -/
def flyO (s : Fin 2) (b : Fin 128) : sProp 𝕄 :=
  iprop(∃ f t, ⌜(oslot s).view.read (Elt F) t = tile p (rowsAt X b)⌝ ∗ outFlight c s b f t)
/-- A result block written. -/
def doneO (b : Fin 128) : sProp 𝕄 := oblkP c b (outAll p X)

/-- The parameters' windows, whole. -/
def paramsP : sProp 𝕄 :=
  iprop((arg1.view.loc (c : Thread nD τ) ↦[arg1.view.set]{fullShare} g1) ∗ (arg2.view.loc (c : Thread nD τ) ↦[arg2.view.set]{fullShare} g2)
    ∗ (arg3.view.loc (c : Thread nD τ) ↦[arg3.view.set]{fullShare} g3) ∗ (arg4.view.loc (c : Thread nD τ) ↦[arg4.view.set]{fullShare} g4))

/-- The windows hold the parameters. -/
structure Holds : Prop where
  h1 : arg1.view.read (Elt F) g1 = p.w1
  h2 : arg2.view.read (Elt F) g2 = p.b1
  h3 : arg3.view.read (Elt F) g3 = p.w2
  h4 : arg4.view.read (Elt F) g4 = p.b2

/-- Trip `k` of the loop over the carried words `acc`. -/
abbrev tripG (k : Fin k0_t1_loop.trips) (acc : BitVec 32 × BitVec 32 × BitVec 32 × BitVec 32 × BitVec 32) :=
  k0_t1_body (F := F) xM (Memref.isWhole_whole _) arg1 harg1 arg2 harg2 arg3 harg3 arg4 harg4 yM (Memref.isWhole_whole _)
    iM (Memref.isWhole_whole _) cc0_scoped1 oM (Memref.isWhole_whole _) cc0_scoped3 u v k acc

variable {c X p arg1 arg2 arg3 arg4 g1 g2 g3 g4}

/-- What a trip computes from a full slot and the windows is the block's tile. -/
theorem pay_tile (hp : Holds c p arg1 arg2 arg3 arg4 g1 g2 g3 g4) {off27 off28 : Fin 3 → Nat} {s : Fin 8} {o : Fin 2} {b : Fin 128}
    (e27 : off27 = islotOff s) (e28 : off28 = oslotOff o) (h27 h28 i1 i2 i3 i4) (f : iM.view.ty.Contents (Elt F)) (t : oM.view.ty.Contents (Elt F)) :
    (oslot o).view.read (Elt F) (View.write (Elt F) (oM.access (Rect.unit (s := S2x256x64) off28 S1x256x64.size h28)) t
      (k0_pay2 (k0_pay1
        (iM.view.readAt (Elt F) (Rect.unit (s := S8x256x4096) off27 S1x256x4096.size h27).toLoadRect
          ((islot s).view.writes (Elt F) f [⟨Rect.whole S256x4096, rowsOf c X b⟩]))
        (arg1.view.readAt (Elt F) (Rect.unit (s := S4096x128) ![0, 0] S4096x128.size i1).toLoadRect g1)
        (arg2.view.readAt (Elt F) (Rect.unit (s := S1x128) ![0, 0] S1x128.size i2).toLoadRect g2)
        (arg3.view.readAt (Elt F) (Rect.unit (s := S128x64) ![0, 0] S128x64.size i3).toLoadRect g3)
        (arg4.view.readAt (Elt F) (Rect.unit (s := S1x64) ![0, 0] S1x64.size i4).toLoadRect g4))) Finset.univ)
      = tile p (rowsAt X b) := by
  refine (slot_stored e28 h28 t _).trans ?_
  have z : (![0, 0] : Fin 2 → Nat) = fun _ => 0 := by decide
  have e1 := (whole_load arg1 z i1 g1).trans hp.h1
  have e2 := (whole_load arg2 z i2 g2).trans hp.h2
  have e3 := (whole_load arg3 z i3 g3).trans hp.h3
  have e4 := (whole_load arg4 z i4 g4).trans hp.h4
  have e0 := slot_load e27 h27 f (rowsOf c X b)
  unfold tile
  refine congrArg (fun w : S1x256x64.Idx → Elt F .f32 => shapeCast S256x64 w shapeCasts_S1x256x64_S256x64) (congrArg k0_pay2 ?_)
  exact (congr (congr (congr (congr (congrArg k0_pay1 e0) e1) e2) e3) e4)

/-- A trip that asks for a further block and waits for the tile before. -/
theorem trip_mid (hp : Holds c p arg1 arg2 arg3 arg4 g1 g2 g3 g4) (k : Fin k0_t1_loop.trips) (h0 : 0 < k.val) (h1 : k.val < 121) :
    iprop(paramsP c arg1 arg2 arg3 arg4 g1 g2 g3 g4 ∗ (∃ W, owes (c : Thread nD τ) 0 W)
      ∗ flyI c X (Ring.sl 8 k.val) (Ring.bk 128 k.val) ∗ freeI c (Ring.sl 8 (k.val + 7)) ∗ xblkP c X (Ring.bk 128 (k.val + 7))
      ∗ freeO c (Ring.sl 2 k.val) ∗ homeO c (Ring.bk 128 k.val) ∗ flyO c X p (Ring.sl 2 (k.val + 1)) (Ring.bk 128 (k.val - 1)))
    ⊢ (wp frame (wpE (defs₀ (F := F)) 𝒱₀ (c : Thread nD τ) none) Set.univ (tripG arg1 harg1 arg2 harg2 arg3 harg3 arg4 harg4 u v k (carry k.val))
        (fun a => iprop(⌜a = carry (k.val + 1)⌝ ∗ paramsP c arg1 arg2 arg3 arg4 g1 g2 g3 g4 ∗ (∃ W, owes (c : Thread nD τ) 0 W)
          ∗ xblkP c X (Ring.bk 128 k.val) ∗ freeI c (Ring.sl 8 k.val) ∗ flyI c X (Ring.sl 8 (k.val + 7)) (Ring.bk 128 (k.val + 7))
          ∗ flyO c X p (Ring.sl 2 k.val) (Ring.bk 128 k.val) ∗ doneO c X p (Ring.bk 128 (k.val - 1)) ∗ freeO c (Ring.sl 2 (k.val + 1)))) : sProp 𝕄) := by
  have hc1 := chk1_at k
  have hc2 := chk2_at k
  have hc3 := chk3_at k
  have h7 := (cond7_iff k).2 h1
  have h8 := cond8_at k
  have h11 := cond11_at k
  have h13 := (cond13_iff k).2 h0
  unfold paramsP freeI flyI freeO homeO flyO doneO
  iintro ⟨⟨H1, H2, H3, H4⟩, ⟨%W, HW⟩, ⟨%f0, HIF⟩, ⟨Hic, %f1, His⟩, Hxb, ⟨Hoc, %t1, Hos⟩, ⟨%fb, Hob⟩, ⟨%fp, %t2, %ht2, HOF⟩⟩
  dsimp only [tripG]
  sl_unfold [k0_t1_body]
  sl_exec
  sl_step
  isplitr
  · ipureintro
    clear * - k
    revert k
    decide +kernel
  isplitl [H1 H2 H3 H4]
  · isplitl [H1]; · iexact H1
    isplitl [H2]; · iexact H2
    isplitl [H3]; · iexact H3
    iexact H4
  isplitl [HW]
  · iexists _; iexact HW
  isplitl [HIF_src]
  · iexact HIF_src
  isplitl [HIF HIF_dst]
  · isplitl [HIF]; · iexact HIF
    iexists _; iexact HIF_dst
  isplitl [Hic]
  · iexists _; iexact Hic
  isplitl [Hoc]
  · iexists fb, _
    isplitr
    rotate_left
    · iexact Hoc
    · ipureintro
      exact pay_tile hp (off27_at k) (off28_at k) _ _ _ _ _ _ _ _
  isplitl [HOF_dst]
  · iapply (entails_of_eq (oblkP_tile c p X (Ring.bk 128 (k.val - 1)) fp))
    rw [← ht2]
    iexact HOF_dst
  isplitl [HOF]; · iexact HOF
  iexists _; iexact HOF_src

/-- The first trip: it asks for a further block, and there is no tile before it. -/
theorem trip_first (hp : Holds c p arg1 arg2 arg3 arg4 g1 g2 g3 g4) (k : Fin k0_t1_loop.trips) (h0 : k.val = 0) :
    iprop(paramsP c arg1 arg2 arg3 arg4 g1 g2 g3 g4 ∗ (∃ W, owes (c : Thread nD τ) 0 W)
      ∗ flyI c X (Ring.sl 8 k.val) (Ring.bk 128 k.val) ∗ freeI c (Ring.sl 8 (k.val + 7)) ∗ xblkP c X (Ring.bk 128 (k.val + 7))
      ∗ freeO c (Ring.sl 2 k.val) ∗ homeO c (Ring.bk 128 k.val))
    ⊢ (wp frame (wpE (defs₀ (F := F)) 𝒱₀ (c : Thread nD τ) none) Set.univ (tripG arg1 harg1 arg2 harg2 arg3 harg3 arg4 harg4 u v k (carry k.val))
        (fun a => iprop(⌜a = carry (k.val + 1)⌝ ∗ paramsP c arg1 arg2 arg3 arg4 g1 g2 g3 g4 ∗ (∃ W, owes (c : Thread nD τ) 0 W)
          ∗ xblkP c X (Ring.bk 128 k.val) ∗ freeI c (Ring.sl 8 k.val) ∗ flyI c X (Ring.sl 8 (k.val + 7)) (Ring.bk 128 (k.val + 7))
          ∗ flyO c X p (Ring.sl 2 k.val) (Ring.bk 128 k.val))) : sProp 𝕄) := by
  have h1 : k.val < 121 := by omega
  have hc1 := chk1_at k
  have hc2 := chk2_at k
  have hc3 := chk3_at k
  have h7 := (cond7_iff k).2 h1
  have h8 := cond8_at k
  have h11 := cond11_at k
  have h13 : ¬ (k0_cond13 k (w11 k.val) = 1#1) := fun h => absurd ((cond13_iff k).1 h) (by omega)
  unfold paramsP freeI flyI freeO homeO flyO
  iintro ⟨⟨H1, H2, H3, H4⟩, ⟨%W, HW⟩, ⟨%f0, HIF⟩, ⟨Hic, %f1, His⟩, Hxb, ⟨Hoc, %t1, Hos⟩, ⟨%fb, Hob⟩⟩
  dsimp only [tripG]
  sl_unfold [k0_t1_body]
  sl_exec
  sl_step
  isplitr
  · ipureintro
    clear * - k h0
    revert k
    decide +kernel
  isplitl [H1 H2 H3 H4]
  · isplitl [H1]; · iexact H1
    isplitl [H2]; · iexact H2
    isplitl [H3]; · iexact H3
    iexact H4
  isplitl [HW]
  · iexists _; iexact HW
  isplitl [HIF_src]
  · iexact HIF_src
  isplitl [HIF HIF_dst]
  · isplitl [HIF]; · iexact HIF
    iexists _; iexact HIF_dst
  isplitl [Hic]
  · iexists _; iexact Hic
  iexists fb, _
  isplitr
  rotate_left
  · iexact Hoc
  · ipureintro
    exact pay_tile hp (off27_at k) (off28_at k) _ _ _ _ _ _ _ _

/-- A trip with no further block to ask for. -/
theorem trip_last (hp : Holds c p arg1 arg2 arg3 arg4 g1 g2 g3 g4) (k : Fin k0_t1_loop.trips) (h1 : 121 ≤ k.val) :
    iprop(paramsP c arg1 arg2 arg3 arg4 g1 g2 g3 g4 ∗ (∃ W, owes (c : Thread nD τ) 0 W)
      ∗ flyI c X (Ring.sl 8 k.val) (Ring.bk 128 k.val)
      ∗ freeO c (Ring.sl 2 k.val) ∗ homeO c (Ring.bk 128 k.val) ∗ flyO c X p (Ring.sl 2 (k.val + 1)) (Ring.bk 128 (k.val - 1)))
    ⊢ (wp frame (wpE (defs₀ (F := F)) 𝒱₀ (c : Thread nD τ) none) Set.univ (tripG arg1 harg1 arg2 harg2 arg3 harg3 arg4 harg4 u v k (carry k.val))
        (fun a => iprop(⌜a = carry (k.val + 1)⌝ ∗ paramsP c arg1 arg2 arg3 arg4 g1 g2 g3 g4 ∗ (∃ W, owes (c : Thread nD τ) 0 W)
          ∗ xblkP c X (Ring.bk 128 k.val) ∗ freeI c (Ring.sl 8 k.val)
          ∗ flyO c X p (Ring.sl 2 k.val) (Ring.bk 128 k.val) ∗ doneO c X p (Ring.bk 128 (k.val - 1)) ∗ freeO c (Ring.sl 2 (k.val + 1)))) : sProp 𝕄) := by
  have h0 : 0 < k.val := by omega
  have hc1 := chk1_at k
  have hc2 := chk2_at k
  have hc3 := chk3_at k
  have h7 : ¬ (k0_cond7 k (w11 k.val) = 1#1) := fun h => absurd ((cond7_iff k).1 h) (by omega)
  have h8 := cond8_at k
  have h11 := cond11_at k
  have h13 := (cond13_iff k).2 h0
  unfold paramsP freeI flyI freeO homeO flyO doneO
  iintro ⟨⟨H1, H2, H3, H4⟩, ⟨%W, HW⟩, ⟨%f0, HIF⟩, ⟨Hoc, %t1, Hos⟩, ⟨%fb, Hob⟩, ⟨%fp, %t2, %ht2, HOF⟩⟩
  dsimp only [tripG]
  sl_unfold [k0_t1_body]
  sl_exec
  sl_step
  isplitr
  · ipureintro
    clear * - k h1
    revert k
    decide +kernel
  isplitl [H1 H2 H3 H4]
  · isplitl [H1]; · iexact H1
    isplitl [H2]; · iexact H2
    isplitl [H3]; · iexact H3
    iexact H4
  isplitl [HW]
  · iexists _; iexact HW
  isplitl [HIF_src]
  · iexact HIF_src
  isplitl [HIF HIF_dst]
  · isplitl [HIF]; · iexact HIF
    iexists _; iexact HIF_dst
  isplitl [Hoc]
  · iexists fb, _
    isplitr
    rotate_left
    · iexact Hoc
    · ipureintro
      exact pay_tile hp (off27_at k) (off28_at k) _ _ _ _ _ _ _ _
  isplitl [HOF_dst]
  · iapply (entails_of_eq (oblkP_tile c p X (Ring.bk 128 (k.val - 1)) fp))
    rw [← ht2]
    iexact HOF_dst
  isplitl [HOF]; · iexact HOF
  iexists _; iexact HOF_src

end

end Cert.Proof.Router

end
-- ==== Proof.Rings.lean ====
/-
  What the loop holds between trips.

  Before trip `k` the input ring has blocks `k … k + 6` on their way (those there are) and one free slot; every other
  block of the input is at home. The output ring has the tile of block `k - 1` on its way out of one slot and the
  other slot free; the blocks before `k - 1` are written and those from `k` on are not yet.
-/
module

public import proofs.«01_k».proof.Proof.Trip
public import Idealize.ShloMosaic.Lib.Ring.WriteBehind

@[expose] public section

noncomputable section

namespace Cert.Proof.Router

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

section
variable (c : Dev nD) (X : Buf (Elt F) (xM.view.loc (c : Thread nD τ))) (p : Params F)

/-! ## The input ring -/

/-- Position `q` of the input ring: block `q` on its way, or a free slot past the last block. -/
def roleI (q : ℕ) : sProp 𝕄 := if q < 128 then flyI c X (Ring.sl 8 q) (Ring.bk 128 q) else freeI c (Ring.sl 8 q)

theorem roleI_lt {q : ℕ} (h : q < 128) : roleI c X q = flyI c X (Ring.sl 8 q) (Ring.bk 128 q) := if_pos h
theorem roleI_ge {q : ℕ} (h : 128 ≤ q) : roleI c X q = freeI c (Ring.sl 8 q) := if_neg (by omega)

/-- The input ring before trip `k`. -/
def inRing (k : ℕ) : sProp 𝕄 :=
  iprop(bigSep (Ring.homeSet 7 k) (xblkP c X) ∗ bigSep (Finset.Ico k (k + 7)) (roleI c X) ∗ freeI c (Ring.sl 8 (k + 7)))

theorem ico_head (k : ℕ) : Finset.Ico k (k + 7) = insert k (Finset.Ico (k + 1) (k + 7)) := by
  ext q; simp only [Finset.mem_Ico, Finset.mem_insert]; omega
theorem ico_tail (k : ℕ) : Finset.Ico (k + 1) (k + 1 + 7) = insert (k + 7) (Finset.Ico (k + 1) (k + 7)) := by
  ext q; simp only [Finset.mem_Ico, Finset.mem_insert]; omega

/-- The ring opened for a trip that asks; -/
theorem inRing_open (k : ℕ) (hk : k < 121) :
    (inRing c X k : sProp 𝕄)
      = iprop((xblkP c X (Ring.bk 128 (k + 7)) ∗ bigSep ((Ring.homeSet 7 k).erase (Ring.bk 128 (k + 7))) (xblkP c X))
          ∗ (flyI c X (Ring.sl 8 k) (Ring.bk 128 k) ∗ bigSep (Finset.Ico (k + 1) (k + 7)) (roleI c X)) ∗ freeI c (Ring.sl 8 (k + 7))) := by
  unfold inRing
  conv_lhs => rw [Ring.homeSet_out 7 k (by omega), bigSep_insert (Ring.bkL_not_mem_erase 7 k), ico_head k, bigSep_insert (by simp), roleI_lt c X (show k < 128 by omega)]
  rfl
/-- closed after it; -/
theorem inRing_close (k : ℕ) (hk : k < 121) :
    (inRing c X (k + 1) : sProp 𝕄)
      = iprop((xblkP c X (Ring.bk 128 k) ∗ bigSep ((Ring.homeSet 7 k).erase (Ring.bk 128 (k + 7))) (xblkP c X))
          ∗ (flyI c X (Ring.sl 8 (k + 7)) (Ring.bk 128 (k + 7)) ∗ bigSep (Finset.Ico (k + 1) (k + 7)) (roleI c X)) ∗ freeI c (Ring.sl 8 k)) := by
  unfold inRing
  conv_lhs => rw [Ring.homeSet_succ 7 k (by omega), bigSep_insert (Ring.bk_not_mem_erase 7 k (by omega) (by decide)), ico_tail k, bigSep_insert (by simp),
    roleI_lt c X (show k + 7 < 128 by omega), show k + 1 + 7 = k + 8 by omega, Ring.sl_add 8 k]
  rfl
/-- opened for a trip that does not ask; -/
theorem inRing_open_last (k : ℕ) (hk : k < 128) :
    (inRing c X k : sProp 𝕄)
      = iprop(bigSep (Ring.homeSet 7 k) (xblkP c X)
          ∗ (flyI c X (Ring.sl 8 k) (Ring.bk 128 k) ∗ bigSep (Finset.Ico (k + 1) (k + 7)) (roleI c X)) ∗ freeI c (Ring.sl 8 (k + 7))) := by
  unfold inRing
  rw [ico_head k, bigSep_insert (by simp), roleI_lt c X hk]
  rfl
/-- and closed after it. -/
theorem inRing_close_last (k : ℕ) (h : 121 ≤ k) (hk : k < 128) :
    (inRing c X (k + 1) : sProp 𝕄)
      = iprop((xblkP c X (Ring.bk 128 k) ∗ bigSep (Ring.homeSet 7 k) (xblkP c X))
          ∗ (freeI c (Ring.sl 8 (k + 7)) ∗ bigSep (Finset.Ico (k + 1) (k + 7)) (roleI c X)) ∗ freeI c (Ring.sl 8 k)) := by
  unfold inRing
  rw [Ring.homeSet_succ_tail 7 k (by omega) hk, bigSep_insert (Ring.bk_not_mem_homeSet 7 k hk (by decide)), ico_tail k, bigSep_insert (by simp),
    roleI_ge c X (show 128 ≤ k + 7 by omega), show k + 1 + 7 = k + 8 by omega, Ring.sl_add 8 k]
  rfl

/-- The eight slots, one by one. -/
theorem eight (P : Fin 8 → sProp 𝕄) : bigSep Finset.univ P = iprop(P 0 ∗ P 1 ∗ P 2 ∗ P 3 ∗ P 4 ∗ P 5 ∗ P 6 ∗ P 7) :=
  bigSep_univ_eq_bigSepL [(0 : Fin 8), 1, 2, 3, 4, 5, 6, 7] (by decide) (by decide) P

/-- Seven positions, one by one. -/
theorem seven (k : ℕ) (P : ℕ → sProp 𝕄) :
    bigSep (Finset.Ico k (k + 7)) P = iprop(P k ∗ P (k + 1) ∗ P (k + 2) ∗ P (k + 3) ∗ P (k + 4) ∗ P (k + 5) ∗ P (k + 6)) := by
  have e : Finset.Ico k (k + 7) = insert k (insert (k + 1) (insert (k + 2) (insert (k + 3) (insert (k + 4) (insert (k + 5) {k + 6}))))) := by
    ext q; simp only [Finset.mem_Ico, Finset.mem_insert, Finset.mem_singleton]; omega
  rw [e, bigSep_insert (by simp), bigSep_insert (by simp), bigSep_insert (by simp), bigSep_insert (by simp), bigSep_insert (by simp),
    bigSep_insert (by simp), bigSep_singleton]
  rfl

/-- Before the first trip: seven blocks asked for. -/
theorem inRing_zero :
    (inRing c X 0 : sProp 𝕄)
      = iprop(bigSep (Ring.homeSet 7 0) (xblkP c X)
          ∗ (flyI c X 0 0 ∗ flyI c X 1 1 ∗ flyI c X 2 2 ∗ flyI c X 3 3 ∗ flyI c X 4 4 ∗ flyI c X 5 5 ∗ flyI c X 6 6) ∗ freeI c 7) := by
  unfold inRing
  rw [seven, roleI_lt c X (by omega), roleI_lt c X (by omega), roleI_lt c X (by omega), roleI_lt c X (by omega), roleI_lt c X (by omega),
    roleI_lt c X (by omega), roleI_lt c X (by omega)]
  rfl

/-- After the last: every block home, every slot free. -/
theorem inRing_last :
    (inRing c X 128 : sProp 𝕄) ⊢ iprop(bigSep Finset.univ (xblkP c X) ∗ bigSep Finset.univ (freeI c)) := by
  unfold inRing
  rw [Ring.homeSet_last 7 128 le_rfl, seven, roleI_ge c X (by omega), roleI_ge c X (by omega), roleI_ge c X (by omega), roleI_ge c X (by omega),
    roleI_ge c X (by omega), roleI_ge c X (by omega), roleI_ge c X (by omega), eight]
  have e0 : Ring.sl 8 128 = 0 := by decide
  have e1 : Ring.sl 8 (128 + 1) = 1 := by decide
  have e2 : Ring.sl 8 (128 + 2) = 2 := by decide
  have e3 : Ring.sl 8 (128 + 3) = 3 := by decide
  have e4 : Ring.sl 8 (128 + 4) = 4 := by decide
  have e5 : Ring.sl 8 (128 + 5) = 5 := by decide
  have e6 : Ring.sl 8 (128 + 6) = 6 := by decide
  have e7 : Ring.sl 8 (128 + 7) = 7 := by decide
  rw [e0, e1, e2, e3, e4, e5, e6, e7]
  iintro ⟨HB, ⟨H0, H1, H2, H3, H4, H5, H6⟩, H7⟩
  isplitl [HB]; · iexact HB
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The first seven blocks, apart from the rest. -/
theorem blocks_zero :
    (bigSep Finset.univ (xblkP c X) : sProp 𝕄)
      = iprop(xblkP c X 0 ∗ xblkP c X 1 ∗ xblkP c X 2 ∗ xblkP c X 3 ∗ xblkP c X 4 ∗ xblkP c X 5 ∗ xblkP c X 6 ∗ bigSep (Ring.homeSet 7 0) (xblkP c X)) := by
  have e : (Finset.univ : Finset (Fin 128)) = insert 0 (insert 1 (insert 2 (insert 3 (insert 4 (insert 5 (insert 6 (Ring.homeSet (NB := 128) 7 0))))))) := by
    ext b; simp only [Finset.mem_univ, Finset.mem_insert, Ring.mem_homeSet, true_iff, Fin.ext_iff]; have := b.isLt
    show b.val = 0 ∨ b.val = 1 ∨ b.val = 2 ∨ b.val = 3 ∨ b.val = 4 ∨ b.val = 5 ∨ b.val = 6 ∨ _
    omega
  rw [e, bigSep_insert (by decide +kernel), bigSep_insert (by decide +kernel), bigSep_insert (by decide +kernel), bigSep_insert (by decide +kernel), bigSep_insert (by decide +kernel),
    bigSep_insert (by decide +kernel), bigSep_insert (by decide +kernel)]
  rfl

/-! ## The output ring -/

/-- The output ring before trip `k`. -/
def outRing (k : ℕ) : sProp 𝕄 := Ring.AtB (n := 2) (NB := 128) 1 (freeO c) (flyO c X p) (homeO c) (doneO c X p) k

end

end Cert.Proof.Router

end
-- ==== Proof.Body.lean ====
/-
  The kernel's body: seven blocks asked for, 128 trips, the last tile waited for.
-/
module

public import proofs.«01_k».proof.Proof.Rings

@[expose] public section

noncomputable section

namespace Cert.Proof.Router

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

/-! ## The spellings outside the loop -/

section Spell
@[sl_canon] theorem ism_0 (hh) : (cc0_scoped1.slice (Rect.unit (s := S8) k0_off1 S1.size hh)).squeeze S_ squeezes_S1_S_ = ism 0 := ism_congr off1_at _
@[sl_canon] theorem ism_1 (hh) : (cc0_scoped1.slice (Rect.unit (s := S8) k0_off3 S1.size hh)).squeeze S_ squeezes_S1_S_ = ism 1 := ism_congr off3_at _
@[sl_canon] theorem ism_2 (hh) : (cc0_scoped1.slice (Rect.unit (s := S8) k0_off6 S1.size hh)).squeeze S_ squeezes_S1_S_ = ism 2 := ism_congr off6_at _
@[sl_canon] theorem ism_3 (hh) : (cc0_scoped1.slice (Rect.unit (s := S8) k0_off9 S1.size hh)).squeeze S_ squeezes_S1_S_ = ism 3 := ism_congr off9_at _
@[sl_canon] theorem ism_4 (hh) : (cc0_scoped1.slice (Rect.unit (s := S8) k0_off12 S1.size hh)).squeeze S_ squeezes_S1_S_ = ism 4 := ism_congr off12_at _
@[sl_canon] theorem ism_5 (hh) : (cc0_scoped1.slice (Rect.unit (s := S8) k0_off15 S1.size hh)).squeeze S_ squeezes_S1_S_ = ism 5 := ism_congr off15_at _
@[sl_canon] theorem ism_6 (hh) : (cc0_scoped1.slice (Rect.unit (s := S8) k0_off18 S1.size hh)).squeeze S_ squeezes_S1_S_ = ism 6 := ism_congr off18_at _
@[sl_canon] theorem islot_0 (hh hs) : (iM.slice (Rect.unit (s := S8x256x4096) k0_off2 S1x256x4096.size hh) hs).squeeze S256x4096 squeezes_S1x256x4096_S256x4096 = islot 0 := islot_congr off2_at _ _
@[sl_canon] theorem islot_1 (hh hs) : (iM.slice (Rect.unit (s := S8x256x4096) k0_off4 S1x256x4096.size hh) hs).squeeze S256x4096 squeezes_S1x256x4096_S256x4096 = islot 1 := islot_congr off4_at _ _
@[sl_canon] theorem islot_2 (hh hs) : (iM.slice (Rect.unit (s := S8x256x4096) k0_off7 S1x256x4096.size hh) hs).squeeze S256x4096 squeezes_S1x256x4096_S256x4096 = islot 2 := islot_congr off7_at _ _
@[sl_canon] theorem islot_3 (hh hs) : (iM.slice (Rect.unit (s := S8x256x4096) k0_off10 S1x256x4096.size hh) hs).squeeze S256x4096 squeezes_S1x256x4096_S256x4096 = islot 3 := islot_congr off10_at _ _
@[sl_canon] theorem islot_4 (hh hs) : (iM.slice (Rect.unit (s := S8x256x4096) k0_off13 S1x256x4096.size hh) hs).squeeze S256x4096 squeezes_S1x256x4096_S256x4096 = islot 4 := islot_congr off13_at _ _
@[sl_canon] theorem islot_5 (hh hs) : (iM.slice (Rect.unit (s := S8x256x4096) k0_off16 S1x256x4096.size hh) hs).squeeze S256x4096 squeezes_S1x256x4096_S256x4096 = islot 5 := islot_congr off16_at _ _
@[sl_canon] theorem islot_6 (hh hs) : (iM.slice (Rect.unit (s := S8x256x4096) k0_off19 S1x256x4096.size hh) hs).squeeze S256x4096 squeezes_S1x256x4096_S256x4096 = islot 6 := islot_congr off19_at _ _
@[sl_canon] theorem xblk_0 (hh hs) : xM.slice (Rect.unit (s := S32768x4096) ![0, 0] S256x4096.size hh) hs = xblk 0 := xblk_congr (by decide) _ _
@[sl_canon] theorem xblk_1 (hh hs) : xM.slice (Rect.unit (s := S32768x4096) k0_off5 S256x4096.size hh) hs = xblk 1 := xblk_congr off5_at _ _
@[sl_canon] theorem xblk_2 (hh hs) : xM.slice (Rect.unit (s := S32768x4096) k0_off8 S256x4096.size hh) hs = xblk 2 := xblk_congr off8_at _ _
@[sl_canon] theorem xblk_3 (hh hs) : xM.slice (Rect.unit (s := S32768x4096) k0_off11 S256x4096.size hh) hs = xblk 3 := xblk_congr off11_at _ _
@[sl_canon] theorem xblk_4 (hh hs) : xM.slice (Rect.unit (s := S32768x4096) k0_off14 S256x4096.size hh) hs = xblk 4 := xblk_congr off14_at _ _
@[sl_canon] theorem xblk_5 (hh hs) : xM.slice (Rect.unit (s := S32768x4096) k0_off17 S256x4096.size hh) hs = xblk 5 := xblk_congr off17_at _ _
@[sl_canon] theorem xblk_6 (hh hs) : xM.slice (Rect.unit (s := S32768x4096) k0_off20 S256x4096.size hh) hs = xblk 6 := xblk_congr off20_at _ _
@[sl_canon] theorem osm_end (hh) : (cc0_scoped3.slice (Rect.unit (s := S2) (k0_off35 (w10 128)) S1.size hh)).squeeze S_ squeezes_S1_S_ = osm 1 := osm_congr off35_end _
@[sl_canon] theorem oblk_end (hh hs) : yM.slice (Rect.unit (s := S32768x64) (k0_off36 (w11 128)) S256x64.size hh) hs = oblk 127 := oblk_congr off36_end _ _
@[sl_canon] theorem oslot_end (hh hs) : (oM.slice (Rect.unit (s := S2x256x64) (k0_off37 (w10 128)) S1x256x64.size hh) hs).squeeze S256x64 squeezes_S1x256x64_S256x64 = oslot 1 := oslot_congr off37_end _ _
end Spell

section
variable (c : Dev nD) (X : Buf (Elt F) (xM.view.loc (c : Thread nD τ))) (p : Params F)
  (arg1 : Memref sig .tc .vmem S4096x128 .f32) (harg1 : arg1.IsWhole) (arg2 : Memref sig .tc .vmem S1x128 .f32) (harg2 : arg2.IsWhole)
  (arg3 : Memref sig .tc .vmem S128x64 .f32) (harg3 : arg3.IsWhole) (arg4 : Memref sig .tc .vmem S1x64 .f32) (harg4 : arg4.IsWhole)
  (g1 : Buf (Elt F) (arg1.view.loc (c : Thread nD τ))) (g2 : Buf (Elt F) (arg2.view.loc (c : Thread nD τ)))
  (g3 : Buf (Elt F) (arg3.view.loc (c : Thread nD τ))) (g4 : Buf (Elt F) (arg4.view.loc (c : Thread nD τ)))

/-! ## The loop -/

/-- What the loop holds before trip `k`, over the carried words. -/
def inv (k : ℕ) (acc : BitVec 32 × BitVec 32 × BitVec 32 × BitVec 32 × BitVec 32) : sProp 𝕄 :=
  iprop(⌜acc = carry k⌝ ∗ paramsP c arg1 arg2 arg3 arg4 g1 g2 g3 g4 ∗ (∃ W, owes (c : Thread nD τ) 0 W) ∗ inRing c X k ∗ outRing c X p k)

variable {c X p arg1 arg2 arg3 arg4 g1 g2 g3 g4}

/-- One trip keeps it. -/
theorem inv_step (hp : Holds c p arg1 arg2 arg3 arg4 g1 g2 g3 g4) (u v : BitVec 32) (k : Fin k0_t1_loop.trips) (acc) :
    (inv c X p arg1 arg2 arg3 arg4 g1 g2 g3 g4 k.val acc : sProp 𝕄)
      ⊢ wp frame (wpE (defs₀ (F := F)) 𝒱₀ (c : Thread nD τ) none) Set.univ (tripG arg1 harg1 arg2 harg2 arg3 harg3 arg4 harg4 u v k acc)
          (inv c X p arg1 arg2 arg3 arg4 g1 g2 g3 g4 (k.val + 1)) := by
  have hk := trip_lt k
  unfold inv outRing
  iintro ⟨%e, HP, HW, HI, HO⟩
  subst e
  by_cases h0 : k.val = 0
  · ihave HI := (entails_of_eq (inRing_open c X k.val (by omega))) $$ HI
    ihave HO := (entails_of_eq (Ring.AtB2_zero' 1 (freeO c) (flyO c X p) (homeO c) (doneO c X p) k.val h0)) $$ HO
    icases HI with ⟨⟨HB, HBs⟩, ⟨HF, HFs⟩, HS⟩
    icases HO with ⟨⟨HA, HAs⟩, HC, HD⟩
    iapply (wp_wand_r frame (wpE (defs₀ (F := F)) 𝒱₀ (c : Thread nD τ) none) Set.univ)
    isplitl [HP HW HF HS HB HC HA]
    · iapply (trip_first harg1 harg2 harg3 harg4 u v hp k h0)
      isplitl [HP]; · iexact HP
      isplitl [HW]; · iexact HW
      isplitl [HF]; · iexact HF
      isplitl [HS]; · iexact HS
      isplitl [HB]; · iexact HB
      isplitl [HC]; · iexact HC
      iexact HA
    · iintro %acc' ⟨%e, HP, HW, HB, HS, HF, HC⟩
      isplitr; · ipureintro; exact e
      isplitl [HP]; · iexact HP
      isplitl [HW]; · iexact HW
      isplitl [HB HBs HF HFs HS]
      · iapply (entails_of_eq (inRing_close c X k.val (by omega)).symm)
        isplitl [HB HBs]
        · isplitl [HB]; · iexact HB
          iexact HBs
        isplitl [HF HFs]
        · isplitl [HF]; · iexact HF
          iexact HFs
        iexact HS
      iapply (entails_of_eq (Ring.AtB21_next_zero' (freeO c) (flyO c X p) (homeO c) (doneO c X p) k.val h0).symm)
      isplitl [HAs]; · iexact HAs
      isplitl [HD]; · iexact HD
      iexact HC
  by_cases h1 : k.val < 121
  · ihave HI := (entails_of_eq (inRing_open c X k.val h1)) $$ HI
    ihave HO := (entails_of_eq (Ring.AtB21_here (freeO c) (flyO c X p) (homeO c) (doneO c X p) k.val (by omega) hk)) $$ HO
    icases HI with ⟨⟨HB, HBs⟩, ⟨HF, HFs⟩, HS⟩
    icases HO with ⟨⟨HA, HAs⟩, HDs, HC, HD⟩
    iapply (wp_wand_r frame (wpE (defs₀ (F := F)) 𝒱₀ (c : Thread nD τ) none) Set.univ)
    isplitl [HP HW HF HS HB HC HA HD]
    · iapply (trip_mid harg1 harg2 harg3 harg4 u v hp k (by omega) h1)
      isplitl [HP]; · iexact HP
      isplitl [HW]; · iexact HW
      isplitl [HF]; · iexact HF
      isplitl [HS]; · iexact HS
      isplitl [HB]; · iexact HB
      isplitl [HC]; · iexact HC
      isplitl [HA]; · iexact HA
      iexact HD
    · iintro %acc' ⟨%e, HP, HW, HB, HS, HF, HC, HE, HD⟩
      isplitr; · ipureintro; exact e
      isplitl [HP]; · iexact HP
      isplitl [HW]; · iexact HW
      isplitl [HB HBs HF HFs HS]
      · iapply (entails_of_eq (inRing_close c X k.val h1).symm)
        isplitl [HB HBs]
        · isplitl [HB]; · iexact HB
          iexact HBs
        isplitl [HF HFs]
        · isplitl [HF]; · iexact HF
          iexact HFs
        iexact HS
      iapply (entails_of_eq (Ring.AtB21_next (freeO c) (flyO c X p) (homeO c) (doneO c X p) k.val (by omega) hk).symm)
      isplitl [HAs]; · iexact HAs
      isplitl [HE HDs]
      · isplitl [HE]; · iexact HE
        iexact HDs
      isplitl [HD]; · iexact HD
      iexact HC
  · ihave HI := (entails_of_eq (inRing_open_last c X k.val hk)) $$ HI
    ihave HO := (entails_of_eq (Ring.AtB21_here (freeO c) (flyO c X p) (homeO c) (doneO c X p) k.val (by omega) hk)) $$ HO
    icases HI with ⟨HBs, ⟨HF, HFs⟩, HS'⟩
    icases HO with ⟨⟨HA, HAs⟩, HDs, HC, HD⟩
    iapply (wp_wand_r frame (wpE (defs₀ (F := F)) 𝒱₀ (c : Thread nD τ) none) Set.univ)
    isplitl [HP HW HF HC HA HD]
    · iapply (trip_last harg1 harg2 harg3 harg4 u v hp k (by omega))
      isplitl [HP]; · iexact HP
      isplitl [HW]; · iexact HW
      isplitl [HF]; · iexact HF
      isplitl [HC]; · iexact HC
      isplitl [HA]; · iexact HA
      iexact HD
    · iintro %acc' ⟨%e, HP, HW, HB, HS, HC, HE, HD⟩
      isplitr; · ipureintro; exact e
      isplitl [HP]; · iexact HP
      isplitl [HW]; · iexact HW
      isplitl [HB HBs HFs HS' HS]
      · iapply (entails_of_eq (inRing_close_last c X k.val (by omega) hk).symm)
        isplitl [HB HBs]
        · isplitl [HB]; · iexact HB
          iexact HBs
        isplitl [HS' HFs]
        · isplitl [HS']; · iexact HS'
          iexact HFs
        iexact HS
      iapply (entails_of_eq (Ring.AtB21_next (freeO c) (flyO c X p) (homeO c) (doneO c X p) k.val (by omega) hk).symm)
      isplitl [HAs]; · iexact HAs
      isplitl [HE HDs]
      · isplitl [HE]; · iexact HE
        iexact HDs
      isplitl [HD]; · iexact HD
      iexact HC

/-! ## The body -/

variable (c X p arg1 arg2 arg3 arg4 g1 g2 g3 g4)

/-- The kernel's function on the staged parameters, the input and the result its own arrays. -/
abbrev bodyG : Prog (TpuEff nD τ sig (Elt F) Λ₀ .tc) PUnit :=
  cc0__router_body xM (Memref.isWhole_whole _) arg1 harg1 arg2 harg2 arg3 harg3 arg4 harg4 yM (Memref.isWhole_whole _)
    iM (Memref.isWhole_whole _) cc0_scoped1 oM (Memref.isWhole_whole _) cc0_scoped3

/-- What the body is given: the parameters, every block of the input, every slot free, no block of the result written. -/
def bodyPre : sProp 𝕄 :=
  iprop(paramsP c arg1 arg2 arg3 arg4 g1 g2 g3 g4 ∗ (∃ W, owes (c : Thread nD τ) 0 W)
    ∗ bigSep Finset.univ (xblkP c X) ∗ bigSep Finset.univ (freeI c) ∗ bigSep Finset.univ (homeO c) ∗ bigSep Finset.univ (freeO c))
/-- What it leaves: the same, every block of the result written. -/
def bodyPost : sProp 𝕄 :=
  iprop(paramsP c arg1 arg2 arg3 arg4 g1 g2 g3 g4 ∗ (∃ W, owes (c : Thread nD τ) 0 W)
    ∗ bigSep Finset.univ (xblkP c X) ∗ bigSep Finset.univ (freeI c) ∗ bigSep Finset.univ (doneO c X p) ∗ bigSep Finset.univ (freeO c))

variable {c X p arg1 arg2 arg3 arg4 g1 g2 g3 g4}

/-- The whole body: the first seven blocks asked for, the loop, the last tile waited for. -/
theorem bodyRun (hp : Holds c p arg1 arg2 arg3 arg4 g1 g2 g3 g4) :
    (bodyPre c X arg1 arg2 arg3 arg4 g1 g2 g3 g4 : sProp 𝕄)
      ⊢ wp frame (wpE (defs₀ (F := F)) 𝒱₀ (c : Thread nD τ) none) Set.univ (bodyG arg1 harg1 arg2 harg2 arg3 harg3 arg4 harg4)
          (fun _ => bodyPost c X p arg1 arg2 arg3 arg4 g1 g2 g3 g4) := by
  have h1 := cond1_at
  have h2 := cond2_at
  have h3 := cond3_at
  have h4 := cond4_at
  have h5 := cond5_at
  have h6 := cond6_at
  unfold bodyPre
  iintro ⟨HP, ⟨%W, HW⟩, HB, HS, HA, HO⟩
  ihave HB := (entails_of_eq (blocks_zero c X)) $$ HB
  ihave HS := (entails_of_eq (eight (freeI c))) $$ HS
  icases HB with ⟨HB0, HB1, HB2, HB3, HB4, HB5, HB6, HB⟩
  unfold freeI
  icases HS with ⟨⟨Hc0, %f0, Hs0⟩, ⟨Hc1, %f1, Hs1⟩, ⟨Hc2, %f2, Hs2⟩, ⟨Hc3, %f3, Hs3⟩, ⟨Hc4, %f4, Hs4⟩, ⟨Hc5, %f5, Hs5⟩, ⟨Hc6, %f6, Hs6⟩, ⟨Hc7, Hs7⟩⟩
  dsimp only [bodyG]
  sl_unfold [cc0__router_body]
  sl_exec
  sl_for (inv c X p arg1 arg2 arg3 arg4 g1 g2 g3 g4) $$ [HP HW HB Hc0 Hc1 Hc2 Hc3 Hc4 Hc5 Hc6 Hc7 Hs7 HA HO]
  · intro k acc
    exact inv_step harg1 harg2 harg3 harg4 hp _ _ k acc
  · unfold inv
    isplitr; · ipureintro; decide
    isplitl [HP]; · iexact HP
    isplitl [HW]; · iexists _; iexact HW
    isplitl [HB Hc0 Hc1 Hc2 Hc3 Hc4 Hc5 Hc6 Hc7 Hs7]
    · iapply (entails_of_eq (inRing_zero c X).symm)
      isplitl [HB]; · iexact HB
      unfold flyI freeI
      isplitr [Hc7 Hs7]
      rotate_left
      · isplitl [Hc7]; · iexact Hc7
        iexact Hs7
      isplitl [Hc0]; · iexists f0; iexact Hc0
      isplitl [Hc1]; · iexists f1; iexact Hc1
      isplitl [Hc2]; · iexists f2; iexact Hc2
      isplitl [Hc3]; · iexists f3; iexact Hc3
      isplitl [Hc4]; · iexists f4; iexact Hc4
      isplitl [Hc5]; · iexists f5; iexact Hc5
      iexists f6; iexact Hc6
    unfold outRing
    iapply (entails_of_eq (Ring.AtB_zero 1 (freeO c) (flyO c X p) (homeO c) (doneO c X p)).symm)
    unfold Ring.AtB₀
    isplitl [HA]; · iexact HA
    iexact HO
  iintro %acc Hinv
  have h128 : Scf.trips k0_t1_loop.lb k0_t1_loop.ub k0_t1_loop.st = 128 := trips_eq
  have hb : Ring.bk 128 127 = (127 : Fin 128) := by decide
  have hs : Ring.sl 2 129 = (1 : Fin 2) := by decide
  have hc4 := chk4_end
  have hc5 := chk5_end
  rw [h128]
  unfold inv outRing
  icases Hinv with ⟨%e, HP, ⟨%W', HW⟩, HI, HO⟩
  subst e
  ihave HO := (entails_of_eq (Ring.AtB21_end' (freeO c) (flyO c X p) (homeO c) (doneO c X p) 128 rfl (by decide))) $$ HO
  icases HO with ⟨HD, HF, HY⟩
  ihave HY := (show (flyO c X p (Ring.sl 2 (128 + 1)) (Ring.bk 128 (128 - 1)) : sProp 𝕄) ⊢ flyO c X p 1 127 from by
    rw [show Ring.sl 2 (128 + 1) = (1 : Fin 2) from hs, show Ring.bk 128 (128 - 1) = (127 : Fin 128) from hb]) $$ HY
  unfold flyO
  icases HY with ⟨%f, %t, %ht, HY⟩
  dsimp only [carry]
  sl_exec
  sl_step
  unfold bodyPost
  ihave HI := (inRing_last c X) $$ HI
  icases HI with ⟨HB, HS⟩
  isplitl [HP]; · iexact HP
  isplitl [HW]; · iexists _; iexact HW
  isplitl [HB]; · iexact HB
  isplitl [HS]; · iexact HS
  iapply (show (iprop((doneO c X p 127 ∗ bigSep (Ring.behindSet 1 128) (doneO c X p)) ∗ freeO c (Ring.sl 2 128) ∗ freeO c 1) : sProp 𝕄)
      ⊢ iprop(bigSep Finset.univ (doneO c X p) ∗ bigSep Finset.univ (freeO c)) from
    entails_of_eq (((Ring.AtB21_epilogue' (freeO c) (doneO c X p) 128 rfl (by decide)).trans (by
      rw [show Ring.sl 2 (128 + 1) = (1 : Fin 2) from hs, show Ring.bk 128 (128 - 1) = (127 : Fin 128) from hb])).symm))
  isplitl [HY_dst HD]
  · isplitl [HY_dst]
    · unfold doneO
      iapply (entails_of_eq (oblkP_tile c p X 127 f))
      rw [← ht]
      iexact HY_dst
    iexact HD
  isplitl [HF]; · iexact HF
  unfold freeO
  isplitl [HY]; · iexact HY
  iexists _; iexact HY_src

end

end Cert.Proof.Router

end
-- ==== Proof.Cut.lean ====
/-
  The buffers, cut and joined.

  The input, the result and the two rings' buffers, each held whole when the kernel is entered and when it returns, are
  their blocks and slots; the semaphores the kernel allocates are those of the slots.
-/
module

public import proofs.«01_k».proof.Proof.Body
public import proofs.«01_k».proof.Proof.Gen.KernelIdeal.Frame

@[expose] public section

set_option maxRecDepth 16384

noncomputable section

namespace Cert.Proof.Router

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

/-! ## Cutting a buffer -/

/-- The elements of block `b` of the input, of block `b` of the result, of slot `s` of either ring. -/
abbrev BX (b : Fin 128) : Finset S32768x4096.Idx := (Rect.unit (s := S32768x4096) (inOff b) S256x4096.size (inOff_inb b)).set
abbrev BO (b : Fin 128) : Finset S32768x64.Idx := (Rect.unit (s := S32768x64) (inOff b) S256x64.size (outOff_inb b)).set
abbrev SI8 (s : Fin 8) : Finset S8x256x4096.Idx := (Rect.unit (s := S8x256x4096) (islotOff s) S1x256x4096.size (islotOff_inb s)).set
abbrev SO2 (s : Fin 2) : Finset S2x256x64.Idx := (Rect.unit (s := S2x256x64) (oslotOff s) S1x256x64.size (oslotOff_inb s)).set

theorem mem_BX (b : Fin 128) (y : S32768x4096.Idx) : y ∈ BX b ↔ (y 0).val / 256 = b.val := by
  rw [Rect.mem_set_unit]
  have h1 : (y 1).val < 4096 := (y 1).isLt
  constructor
  · intro H
    have a0 : 256 * b.val ≤ (y 0).val ∧ (y 0).val < 256 * b.val + 256 := H 0
    omega
  · intro H i
    fin_cases i
    · show 256 * b.val ≤ (y 0).val ∧ (y 0).val < 256 * b.val + 256; omega
    · show 0 ≤ (y 1).val ∧ (y 1).val < 0 + 4096; omega
theorem mem_BO (b : Fin 128) (y : S32768x64.Idx) : y ∈ BO b ↔ (y 0).val / 256 = b.val := by
  rw [Rect.mem_set_unit]
  have h1 : (y 1).val < 64 := (y 1).isLt
  constructor
  · intro H
    have a0 : 256 * b.val ≤ (y 0).val ∧ (y 0).val < 256 * b.val + 256 := H 0
    omega
  · intro H i
    fin_cases i
    · show 256 * b.val ≤ (y 0).val ∧ (y 0).val < 256 * b.val + 256; omega
    · show 0 ≤ (y 1).val ∧ (y 1).val < 0 + 64; omega
theorem mem_SI8 (s : Fin 8) (y : S8x256x4096.Idx) : y ∈ SI8 s ↔ (y 0).val = s.val := by
  rw [Rect.mem_set_unit]
  have h1 : (y 1).val < 256 := (y 1).isLt
  have h2 : (y 2).val < 4096 := (y 2).isLt
  constructor
  · intro H
    have a0 : s.val ≤ (y 0).val ∧ (y 0).val < s.val + 1 := H 0
    omega
  · intro H i
    fin_cases i
    · show s.val ≤ (y 0).val ∧ (y 0).val < s.val + 1; omega
    · show 0 ≤ (y 1).val ∧ (y 1).val < 0 + 256; omega
    · show 0 ≤ (y 2).val ∧ (y 2).val < 0 + 4096; omega
theorem mem_SO2 (s : Fin 2) (y : S2x256x64.Idx) : y ∈ SO2 s ↔ (y 0).val = s.val := by
  rw [Rect.mem_set_unit]
  have h1 : (y 1).val < 256 := (y 1).isLt
  have h2 : (y 2).val < 64 := (y 2).isLt
  constructor
  · intro H
    have a0 : s.val ≤ (y 0).val ∧ (y 0).val < s.val + 1 := H 0
    omega
  · intro H i
    fin_cases i
    · show s.val ≤ (y 0).val ∧ (y 0).val < s.val + 1; omega
    · show 0 ≤ (y 1).val ∧ (y 1).val < 0 + 256; omega
    · show 0 ≤ (y 2).val ∧ (y 2).val < 0 + 64; omega

/-- Sets told apart by a number each element has are disjoint, -/
theorem disjoint_of_number {α : Type} {n : ℕ} {S : Fin n → Finset α} {g : α → ℕ} (h : ∀ b y, y ∈ S b ↔ g y = b.val) :
    ∀ b b' : Fin n, b ≠ b' → Disjoint (S b) (S b') := by
  intro b b' hne
  rw [Finset.disjoint_left]
  intro y hy hy'
  exact hne (Fin.ext (((h b y).1 hy).symm.trans ((h b' y).1 hy')))
/-- and cover everything when every number is one of them. -/
theorem cover_of_number {α : Type} [Fintype α] [DecidableEq α] {n : ℕ} {S : Fin n → Finset α} {g : α → ℕ} (h : ∀ b y, y ∈ S b ↔ g y = b.val)
    (hg : ∀ y, g y < n) : (Finset.univ : Finset (Fin n)).biUnion S = Finset.univ := by
  ext y
  simp only [Finset.mem_biUnion, Finset.mem_univ, true_and, iff_true]
  exact ⟨⟨g y, hg y⟩, (h _ y).2 rfl⟩

theorem BX_cover : (Finset.univ : Finset (Fin 128)).biUnion BX = Finset.univ :=
  cover_of_number mem_BX fun y => by have : (y 0).val < 32768 := (y 0).isLt; omega
theorem BO_cover : (Finset.univ : Finset (Fin 128)).biUnion BO = Finset.univ :=
  cover_of_number mem_BO fun y => by have : (y 0).val < 32768 := (y 0).isLt; omega
theorem SI8_cover : (Finset.univ : Finset (Fin 8)).biUnion SI8 = Finset.univ := cover_of_number mem_SI8 fun y => (y 0).isLt
theorem SO2_cover : (Finset.univ : Finset (Fin 2)).biUnion SO2 = Finset.univ := cover_of_number mem_SO2 fun y => (y 0).isLt

theorem xblk_set (b : Fin 128) : (xblk b).view.set = BX b := View.set_slice_whole _ _
theorem oblk_set (b : Fin 128) : (oblk b).view.set = BO b := View.set_slice_whole _ _
theorem islot_set (s : Fin 8) : (islot s).view.set = SI8 s := (View.set_reshape _ _).trans (View.set_slice_whole _ _)
theorem oslot_set (s : Fin 2) : (oslot s).view.set = SO2 s := (View.set_reshape _ _).trans (View.set_slice_whole _ _)

section
variable (c : Dev nD)

omit [FloatOps F] in
theorem xblkP_eq (X : Buf (Elt F) ((c : Thread nD τ).loc main_arg0)) (b : Fin 128) :
    xblkP c X b = (((c : Thread nD τ).loc main_arg0) ↦[BX b]{fullShare} X : sProp 𝕄) := congrArg (fun S => (_ ↦[S]{fullShare} X : sProp 𝕄)) (xblk_set b)
omit [FloatOps F] in
theorem oblkP_eq (b : Fin 128) (f : Buf (Elt F) ((c : Thread nD τ).loc main_v2)) :
    oblkP c b f = (((c : Thread nD τ).loc main_v2) ↦[BO b]{fullShare} f : sProp 𝕄) := congrArg (fun S => (_ ↦[S]{fullShare} f : sProp 𝕄)) (oblk_set b)
omit [FloatOps F] in
theorem islotP_eq (s : Fin 8) (f : Buf (Elt F) ((c : Thread nD τ).loc cc0_scoped0)) :
    islotP c s f = (((c : Thread nD τ).loc cc0_scoped0) ↦[SI8 s]{fullShare} f : sProp 𝕄) := congrArg (fun S => (_ ↦[S]{fullShare} f : sProp 𝕄)) (islot_set s)
omit [FloatOps F] in
theorem oslotP_eq (s : Fin 2) (f : Buf (Elt F) ((c : Thread nD τ).loc cc0_scoped2)) :
    oslotP c s f = (((c : Thread nD τ).loc cc0_scoped2) ↦[SO2 s]{fullShare} f : sProp 𝕄) := congrArg (fun S => (_ ↦[S]{fullShare} f : sProp 𝕄)) (oslot_set s)

omit [FloatOps F] in
/-- The input whole is its blocks; -/
theorem x_eq (X : Buf (Elt F) ((c : Thread nD τ).loc main_arg0)) :
    (((c : Thread nD τ).loc main_arg0) ↦{fullShare} X : sProp 𝕄) = bigSep Finset.univ (xblkP c X) := by
  rw [Ring.pointsTo_blocks (ℓ := (c : Thread nD τ).loc main_arg0) BX (disjoint_of_number mem_BX) BX_cover]
  exact bigSep_congr fun b _ => (xblkP_eq c X b).symm
omit [FloatOps F] in
/-- the result whole is its blocks; -/
theorem o_eq (f : Buf (Elt F) ((c : Thread nD τ).loc main_v2)) :
    (((c : Thread nD τ).loc main_v2) ↦{fullShare} f : sProp 𝕄) = bigSep Finset.univ (fun b => oblkP c b f) := by
  rw [Ring.pointsTo_blocks (ℓ := (c : Thread nD τ).loc main_v2) BO (disjoint_of_number mem_BO) BO_cover]
  exact bigSep_congr fun b _ => (oblkP_eq c b f).symm
/-- held whole at anything, it is its blocks unwritten; -/
theorem o_home (f : Buf (Elt F) ((c : Thread nD τ).loc main_v2)) :
    (((c : Thread nD τ).loc main_v2) ↦{fullShare} f : sProp 𝕄) ⊢ bigSep Finset.univ (homeO c) := by
  rw [o_eq]
  exact bigSep_mono fun b _ => show (oblkP c b f : sProp 𝕄) ⊢ homeO c b from by unfold homeO; iintro H; iexists f; iexact H
omit [FloatOps F] in
/-- each ring's buffer is its slots, -/
theorem in_split :
    iprop(∃ f : Buf (Elt F) ((c : Thread nD τ).loc cc0_scoped0), ((c : Thread nD τ).loc cc0_scoped0) ↦{fullShare} f)
      ⊢ (bigSep Finset.univ (fun s => iprop(∃ f, islotP c s f)) : sProp 𝕄) := by
  iintro ⟨%f, H⟩
  iapply (show (((c : Thread nD τ).loc cc0_scoped0) ↦{fullShare} f : sProp 𝕄) ⊢ bigSep Finset.univ (fun s => iprop(∃ f, islotP c s f)) from by
    rw [Ring.pointsTo_blocks (ℓ := (c : Thread nD τ).loc cc0_scoped0) SI8 (disjoint_of_number mem_SI8) SI8_cover]
    exact bigSep_mono fun s _ => (entails_of_eq (islotP_eq c s f).symm).trans
      (show (islotP c s f : sProp 𝕄) ⊢ iprop(∃ f, islotP c s f) from by iintro H; iexists f; iexact H))
  iexact H
omit [FloatOps F] in
theorem out_split :
    iprop(∃ f : Buf (Elt F) ((c : Thread nD τ).loc cc0_scoped2), ((c : Thread nD τ).loc cc0_scoped2) ↦{fullShare} f)
      ⊢ (bigSep Finset.univ (fun s => iprop(∃ f, oslotP c s f)) : sProp 𝕄) := by
  iintro ⟨%f, H⟩
  iapply (show (((c : Thread nD τ).loc cc0_scoped2) ↦{fullShare} f : sProp 𝕄) ⊢ bigSep Finset.univ (fun s => iprop(∃ f, oslotP c s f)) from by
    rw [Ring.pointsTo_blocks (ℓ := (c : Thread nD τ).loc cc0_scoped2) SO2 (disjoint_of_number mem_SO2) SO2_cover]
    exact bigSep_mono fun s _ => (entails_of_eq (oslotP_eq c s f).symm).trans
      (show (oslotP c s f : sProp 𝕄) ⊢ iprop(∃ f, oslotP c s f) from by iintro H; iexists f; iexact H))
  iexact H
/-- and back. -/
theorem in_join :
    (bigSep Finset.univ (fun s => iprop(∃ f, islotP c s f)) : sProp 𝕄)
      ⊢ iprop(∃ f : Buf (Elt F) ((c : Thread nD τ).loc cc0_scoped0), ((c : Thread nD τ).loc cc0_scoped0) ↦{fullShare} f) := by
  refine (entails_of_eq (bigSep_congr fun s _ => congrArg _ (funext (islotP_eq c s)))).trans ?_
  exact Ring.pointsTo_blocks_join_exists (ℓ := (c : Thread nD τ).loc cc0_scoped0) SI8 (disjoint_of_number mem_SI8) SI8_cover (fun _ => Classical.choice inferInstance)
theorem out_join :
    (bigSep Finset.univ (fun s => iprop(∃ f, oslotP c s f)) : sProp 𝕄)
      ⊢ iprop(∃ f : Buf (Elt F) ((c : Thread nD τ).loc cc0_scoped2), ((c : Thread nD τ).loc cc0_scoped2) ↦{fullShare} f) := by
  refine (entails_of_eq (bigSep_congr fun s _ => congrArg _ (funext (oslotP_eq c s)))).trans ?_
  exact Ring.pointsTo_blocks_join_exists (ℓ := (c : Thread nD τ).loc cc0_scoped2) SO2 (disjoint_of_number mem_SO2) SO2_cover (fun _ => Classical.choice inferInstance)

/-! ## The kernel's own semaphores -/

/-- The ten cells the kernel allocates: one for each slot of the input ring, then one for each slot of the output's. -/
abbrev osem : Fin 10 → SemLoc sig :=
  ![.dma (ism 0).sem, .dma (ism 1).sem, .dma (ism 2).sem, .dma (ism 3).sem, .dma (ism 4).sem, .dma (ism 5).sem, .dma (ism 6).sem, .dma (ism 7).sem,
    .dma (osm 0).sem, .dma (osm 1).sem]
theorem ownSemFacts : Pipeline.OwnSemFacts spec0 osem := by decide

omit [FloatOps F] in
theorem two (P : Fin 2 → sProp 𝕄) : bigSep Finset.univ P = iprop(P 0 ∗ P 1) :=
  bigSep_univ_eq_bigSepL [(0 : Fin 2), 1] (by decide) (by decide) P
omit [FloatOps F] in
theorem ten (P : Fin 10 → sProp 𝕄) : bigSep Finset.univ P = iprop(P 0 ∗ P 1 ∗ P 2 ∗ P 3 ∗ P 4 ∗ P 5 ∗ P 6 ∗ P 7 ∗ P 8 ∗ P 9) :=
  bigSep_univ_eq_bigSepL [(0 : Fin 10), 1, 2, 3, 4, 5, 6, 7, 8, 9] (by decide) (by decide) P

omit [FloatOps F] in
theorem sep_right (P Q R : sProp 𝕄) : iprop((P ∗ Q) ∗ R) = iprop(P ∗ Q ∗ R) :=
  Idealize.SL.BI.equiv_iff.mp ⟨Idealize.SL.BI.sep_assoc, Idealize.SL.BI.sep_assoc'⟩

/-- They at zero are the two rings' cells at zero. -/
theorem own_eq : (Pipeline.ownSems0 (Ix := Unit) (Name := ℕ) (U := UU nD τ) (Lvl := ℕ) (Val := Elt F) (τ := τ) osem c : sProp 𝕄)
    = iprop(bigSep Finset.univ (icell (F := F) c) ∗ bigSep Finset.univ (ocell (F := F) c)) := by
  unfold Pipeline.ownSems0
  rw [ten, eight, two]
  simp only [sep_right]
  rfl

theorem freeI_eq : (bigSep Finset.univ (freeI c) : sProp 𝕄) = iprop(bigSep Finset.univ (icell (F := F) c) ∗ bigSep Finset.univ (fun s => iprop(∃ f, islotP c s f))) :=
  bigSep_sep Finset.univ _ _
theorem freeO_eq : (bigSep Finset.univ (freeO c) : sProp 𝕄) = iprop(bigSep Finset.univ (ocell (F := F) c) ∗ bigSep Finset.univ (fun s => iprop(∃ f, oslotP c s f))) :=
  bigSep_sep Finset.univ _ _

end

end Cert.Proof.Router

end
-- ==== Proof.Run.lean ====
/-
  The program's run.

  The host lays out the two biases, then the kernel is entered once, its four parameters staged. The input, the result
  and the two rings' buffers are cut into blocks and slots, the body runs on them, and they are put together again. The
  run ends with the result at `outAll`, the five arguments as they were and every semaphore at zero.
-/
module

public import proofs.«01_k».proof.Proof.Cut

@[expose] public section

set_option maxRecDepth 16384

noncomputable section

namespace Cert.Proof.Router

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

variable (m : (ℓ : Loc nD τ sig) → Buf (Elt F) ℓ) (ρ : Dev nD → PrngReg)

/-! ## What the region holds -/

/-- The parameters as staged. -/
def params (c : Dev nD) : Params F where
  w1 := iblk m c 0 t0_0
  b1 := iblk m c 1 t0_0
  w2 := iblk m c 2 t0_0
  b2 := iblk m c 3 t0_0

/-- The region's resources before the body and after it: only the result's blocks differ. -/
def ΦB (c : Dev nD) : sProp 𝕄 :=
  iprop(bigSep Finset.univ (xblkP c (V m c main_arg0)) ∗ bigSep Finset.univ (freeI c) ∗ bigSep Finset.univ (homeO c) ∗ bigSep Finset.univ (freeO c))
def ΦE (c : Dev nD) : sProp 𝕄 :=
  iprop(bigSep Finset.univ (xblkP c (V m c main_arg0)) ∗ bigSep Finset.univ (freeI c) ∗ bigSep Finset.univ (doneO c (V m c main_arg0) (params m c))
    ∗ bigSep Finset.univ (freeO c))

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
  Φ t := if t.val = 0 then ΦB m c else ΦE m c
  q _ := fullShare
  owed _ := 0

theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
theorem before_w2 (c : Dev nD) (t : Fin cfg0.N) (d) : (dats m 0 c).before 2 t d = iblk m c 2 t := by
  unfold Dat.before; rw [if_pos (fetch0_2 t)]; unfold Dat.fetched Dat.blockOf iblk; dsimp only [dats]; rfl
theorem before_w3 (c : Dev nD) (t : Fin cfg0.N) (d) : (dats m 0 c).before 3 t d = iblk m c 3 t := by
  unfold Dat.before; rw [if_pos (fetch0_3 t)]; unfold Dat.fetched Dat.blockOf iblk; dsimp only [dats]; rfl
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]
theorem after_w3 (c : Dev nD) (t : Fin cfg0.N) : (dats m 0 c).after 3 t = iblk m c 3 t := by dsimp only [dats]

/-! ## The body -/

abbrev stg0 (t : Fin cfg0.N) : Memref sig .tc .vmem S4096x128 .f32 := win0_0.stage (cfg0.slots t 0)
abbrev stg1 (t : Fin cfg0.N) : Memref sig .tc .vmem S1x128 .f32 := win0_1.stage (cfg0.slots t 1)
abbrev stg2 (t : Fin cfg0.N) : Memref sig .tc .vmem S128x64 .f32 := win0_2.stage (cfg0.slots t 2)
abbrev stg3 (t : Fin cfg0.N) : Memref sig .tc .vmem S1x64 .f32 := win0_3.stage (cfg0.slots t 3)

theorem body_tc : (defs₀ (F := F)) .tc cfg0.body
    = fun a => bodyG (win0_0.stage (a.2 0)) (hstage0_0 0) (win0_1.stage (a.2 1)) (hstage0_1 0) (win0_2.stage (a.2 2)) (hstage0_2 0) (win0_3.stage (a.2 3)) (hstage0_3 0) := rfl
theorem body_at (t : Fin cfg0.N) : (defs₀ (F := F)) .tc cfg0.body (cfg0.bodyArgs t (cfg0.slots t))
    = bodyG (stg0 t) (hstage0_0 0) (stg1 t) (hstage0_1 0) (stg2 t) (hstage0_2 0) (stg3 t) (hstage0_3 0) :=
  (congrFun body_tc _).trans rfl

/-- The staging buffers at their blocks hold the parameters. -/
theorem holds (c : Dev nD) :
    Holds c (params m c) (stg0 t0_0) (stg1 t0_0) (stg2 t0_0) (stg3 t0_0)
      ((stg0 t0_0).view.rep (iblk m c 0 t0_0)) ((stg1 t0_0).view.rep (iblk m c 1 t0_0))
      ((stg2 t0_0).view.rep (iblk m c 2 t0_0)) ((stg3 t0_0).view.rep (iblk m c 3 t0_0)) :=
  ⟨View.read_rep _ _, View.read_rep _ _, View.read_rep _ _, View.read_rep _ _⟩

set_option backward.isDefEq.respectTransparency.types false in
theorem body_obligation (c : Dev nD) : BodyObligation (dats (F := F) m 0 c) (defs₀ (F := F)) 𝒱₀ () Set.univ := fun t => by
  obtain rfl := fin_N0 t
  rw [bigSep_W0, bigSep_W0]
  dsimp only
  simp only [before_w0, before_w1, before_w2, before_w3, after_w0, after_w1, after_w2, after_w3]
  rw [show (dats m 0 c).Φ (t0_0 : Fin cfg0.N).castSucc = ΦB m c from rfl, show (dats m 0 c).Φ (t0_0 : Fin cfg0.N).succ = ΦE m c from rfl]
  unfold Dat.owesAt Pipeline.owesWithin
  rw [show (dats m 0 c).owed (t0_0 : Fin cfg0.N).castSucc = 0 from rfl, show (dats m 0 c).owed (t0_0 : Fin cfg0.N).succ = 0 from rfl]
  unfold owns ΦB ΦE
  iintro ⟨⟨HB, HS, HA, HO⟩, ⟨%W, -, HW⟩, ⟨%d0, %g0, %hg0, H0⟩, ⟨%d1, %g1, %hg1, H1⟩, ⟨%d2, %g2, %hg2, H2⟩, ⟨%d3, %g3, %hg3, H3⟩⟩
  ihave H0' := (pointsTo_rep_entails (c : Thread nD τ) (stg0 t0_0) g0 fullShare) $$ H0
  ihave H1' := (pointsTo_rep_entails (c : Thread nD τ) (stg1 t0_0) g1 fullShare) $$ H1
  ihave H2' := (pointsTo_rep_entails (c : Thread nD τ) (stg2 t0_0) g2 fullShare) $$ H2
  ihave H3' := (pointsTo_rep_entails (c : Thread nD τ) (stg3 t0_0) g3 fullShare) $$ H3
  rw [hg0, hg1, hg2, hg3]
  sl_rw [body_at t0_0]
  iapply (wp_wand_r frame (wpE (defs₀ (F := F)) 𝒱₀ (c : Thread nD τ) none) Set.univ)
  isplitl [H0' H1' H2' H3' HW HB HS HA HO]
  · iapply (bodyRun (hstage0_0 0) (hstage0_1 0) (hstage0_2 0) (hstage0_3 0) (holds m c))
    unfold bodyPre paramsP
    isplitl [H0' H1' H2' H3']
    · isplitl [H0']; · iexact H0'
      isplitl [H1']; · iexact H1'
      isplitl [H2']; · iexact H2'
      iexact H3'
    isplitl [HW]; · iexists _; iexact HW
    isplitl [HB]; · iexact HB
    isplitl [HS]; · iexact HS
    isplitl [HA]; · iexact HA
    iexact HO
  iintro %u Hpost
  unfold bodyPost paramsP
  icases Hpost with ⟨⟨H0, H1, H2, H3⟩, ⟨%W', HW⟩, HB, HS, HA, HO⟩
  isplitl [HB HS HA HO]
  · isplitl [HB]; · iexact HB
    isplitl [HS]; · iexact HS
    isplitl [HA]; · iexact HA
    iexact HO
  isplitl [HW]
  · iexists W'; isplitr; · ipureintro; exact fun _ _ => Or.inl trivial
    iexact HW
  isplitl [H0]
  · iexists _; isplitr; · ipureintro; exact View.read_rep _ _
    iexact H0
  isplitl [H1]
  · iexists _; isplitr; · ipureintro; exact View.read_rep _ _
    iexact H1
  isplitl [H2]
  · iexists _; isplitr; · ipureintro; exact View.read_rep _ _
    iexact H2
  iexists _; isplitr; · ipureintro; exact View.read_rep _ _
  iexact H3

/-! ## The run -/

/-- What enters the region, what leaves it, and what goes by. -/
def goesIn (c : Dev nD) : sProp 𝕄 :=
  iprop(bigSep Finset.univ (xblkP c (V m c main_arg0)) ∗ bigSep Finset.univ (homeO c) ∗ Pipeline.ownSems0 osem c)
def comesOut (c : Dev nD) : sProp 𝕄 :=
  iprop((((c : Thread nD τ).loc main_arg0) ↦{fullShare} V m c main_arg0) ∗ ((c : Thread nD τ).loc main_v2) ↦{fullShare} outAll (params m c) (V m c main_arg0))
def goesBy (c : Dev nD) : sProp 𝕄 :=
  iprop((((c : Thread nD τ).loc main_arg2) ↦{fullShare} V m c main_arg2) ∗ ((c : Thread nD τ).loc main_arg4) ↦{fullShare} V m c main_arg4)

def u₀ : UU nD τ := (initOf (Pipeline.cells cfgs Cert.KernelIdeal.Gen.cellOf_inj) (Pipeline.launchToks cfgs Cert.KernelIdeal.Gen.cellOf_inj), 1)

/-- What the final memory holds of the buffers no window stages. -/
def RestOK (c : Dev nD) (s : MemSt nD τ sig (Elt F)) : Prop :=
  s.mem ((c : Thread nD τ).loc main_arg0) = V m c main_arg0 ∧ s.mem ((c : Thread nD τ).loc main_v2) = outAll (params m c) (V m c main_arg0)
    ∧ s.mem ((c : Thread nD τ).loc main_arg2) = V m c main_arg2 ∧ s.mem ((c : Thread nD τ).loc main_arg4) = V m c main_arg4

set_option backward.isDefEq.respectTransparency.types false in
theorem run_region : θ_run defs (onTc (τ := τ) (main (F := F))) (s₀ m ρ) (fun r =>
    (∀ c : Dev nD, (∀ w : Fin cfg0.W, r.2.mem ((cfg0.win w).arr.view.loc (c : Thread nD τ)) = (dats m 0 c).arrAt w cfg0.N) ∧ RestOK m c r.2)
      ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := (Pipeline.hmain_prefix cfgs 0 defs₀ 𝒱₀ m main hostOps0 hostOps0_sub hostOps0_fresh main_chain :
      Pipeline.HMain (Ix := Unit) (Name := ℕ) (U := UU nD τ) (Lvl := ℕ) cfgs 0 defs₀ 𝒱₀ m (main (F := F)) (V m)))
    (hA := fun _ _ => rfl)
    (X := goesIn m) (Y := comesOut m) (Z := goesBy m)
    (hX := fun c => by
      rw [unscopedRest0_eq, x_eq c (V m c main_arg0)]
      unfold goesIn goesBy
      iintro ⟨⟨H0, H2, H4, HR⟩, HS, -, -, -⟩; imodintro
      isplitl [H0 HR HS]
      · isplitl [H0]; · iexact H0
        isplitl [HR]
        · iapply (o_home c (V m c main_v2)); iexact HR
        iexact HS
      isplitl [H2]; · iexact H2
      iexact H4)
    (hin := fun c => by
      rw [scopedRest0_eq, show (dats m 0 c).Φ 0 = ΦB m c from rfl]
      unfold goesIn ΦB
      rw [own_eq, freeI_eq, freeO_eq]
      iintro ⟨⟨H0, HR, HI, HO⟩, Hb, Hd⟩
      ihave Hb := (in_split c) $$ Hb
      ihave Hd := (out_split c) $$ Hd
      isplitl [H0]; · iexact H0
      isplitl [HI Hb]
      · isplitl [HI]; · iexact HI
        iexact Hb
      isplitl [HR]; · iexact HR
      isplitl [HO]; · iexact HO
      iexact Hd)
    (hout := fun c => by
      rw [scopedRest0_eq, show (dats m 0 c).Φ (Fin.last cfg0.N) = ΦE m c from rfl]
      unfold comesOut ΦE
      rw [own_eq, freeI_eq, freeO_eq, x_eq c (V m c main_arg0), o_eq c (outAll (params m c) (V m c main_arg0))]
      iintro ⟨H0, ⟨HI, Hb⟩, HR, HO, Hd⟩
      isplitl [H0 HR]
      · isplitl [H0]; · iexact H0
        iexact HR
      isplitl [HI HO]
      · isplitl [HI]; · iexact HI
        iexact HO
      isplitl [Hb]
      · iapply (in_join c); iexact Hb
      iapply (out_join c); iexact Hd)
    (QY := RestOK m)
    (hY := fun c s' => by
      unfold comesOut goesBy
      iintro ⟨⟨H0, HR⟩, ⟨H2, H4⟩, HSI⟩
      icombine HSI H0 gives %h0
      icombine HSI HR gives %hr
      icombine HSI H2 gives %h2
      icombine HSI H4 gives %h4
      imodintro
      isplitr
      · ipureintro
        exact ⟨Buf.eq_of_forall_mem_univ h0, Buf.eq_of_forall_mem_univ hr, Buf.eq_of_forall_mem_univ h2, Buf.eq_of_forall_mem_univ h4⟩
      iexact HSI)
    (hQ := fun _ hh hz => ⟨hh, hz⟩)

/-- Every run from zero counters ends with the result at `outAll`, the arguments as launched, the counters at zero. -/
theorem run_main : θ_run defs (onTc (τ := τ) (main (F := F))) (s₀ m ρ) (fun r =>
    (∀ c : Dev nD, r.2.mem ((c : Thread nD τ).loc main_v2) = outAll (params m c) (V m c main_arg0)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun _ h => ⟨fun c =>
    ⟨(h.1 c).2.2.1,
      (h.1 c).2.1.trans (V_main_arg0 m c),
      ((h.1 c).1 0).trans (((dats m 0 c).arrAt_in 0 rfl _).trans (V_main_arg1 m c)),
      (h.1 c).2.2.2.1.trans (V_main_arg2 m c),
      ((h.1 c).1 2).trans (((dats m 0 c).arrAt_in 2 rfl _).trans (V_main_arg3 m c)),
      (h.1 c).2.2.2.2.trans (V_main_arg4 m c)⟩, h.2⟩) (run_region m ρ)

end Cert.Proof.Router

end
-- ==== Proof.Value.lean ====
/-
  The values: over the extended reals the run's whole result is the reference's term of the same arguments. Both are
  read at a row and a column as one formula, `prob`.
-/
module

public import proofs.«01_k».proof.Proof.Run
public import proofs.«01_k».proof.Proof.Gen.ReferenceIdeal.Run
public import Idealize.ShloMosaic.Lib.Pointwise
public import Idealize.ShloMosaic.Lib.Claim
public import Idealize.ShloMosaic.Lib.Pipeline.ValueKit

@[expose] public section

set_option maxRecDepth 16384

noncomputable section

namespace Cert.Proof.Router

open Cert.KernelIdeal Cert.KernelIdeal.Gen
open Idealize.ShloMosaic
open Idealize.ShloMosaic.TcCoe Idealize.SL.Sem

/-! ## The formula -/

/-- The score of expert `l` for one row `x`: two layers, the first one clipped below at zero. -/
def score (x : Fin 4096 → EReal) (w1 : Fin 4096 → Fin 128 → EReal) (b1 : Fin 128 → EReal) (w2 : Fin 128 → Fin 64 → EReal) (b2 : Fin 64 → EReal) (l : Fin 64) : EReal :=
  ∑ h, max (∑ k, x k * w1 k h + b1 h) 0 * w2 h l + b2 l

/-- The greatest of the scores, started from the value of the word both programs start from. -/
def peak (z : Fin 64 → EReal) : EReal := Finset.fold max (Ideal.ofBits .f32 0xFF800000#32) z Finset.univ

/-- The share of expert `l`: the exponential of its score less the greatest, over the sum of all of them. -/
def prob (z : Fin 64 → EReal) (l : Fin 64) : EReal :=
  Ideal.div (Ideal.exp (z l - peak z)) (∑ j, Ideal.exp (z j - peak z))

/-- The start of the fold is below it: taking the greater of the two again changes nothing. -/
theorem max_peak (z : Fin 64 → EReal) : max (Ideal.ofBits .f32 0xFF800000#32) (peak z) = peak z :=
  max_eq_right (Finset.le_fold_max _ |>.mpr (Or.inl le_rfl))

/-! ## The kernel's side -/

/-- The tile at a row and a column. -/
theorem tile_at (p : Params Ideal) (x : FVec Ideal S256x4096 .f32) (r : Fin 256) (l : Fin 64) :
    tile p x (ix2 r l) = prob (score (fun k => x (ix2 r k)) (fun k h => p.w1 (ix2 k h)) (fun h => p.b1 (ix2 0 h)) (fun h j => p.w2 (ix2 h j)) (fun j => p.b2 (ix2 0 j))) l := by
  obtain ⟨w1, b1, w2, b2⟩ := p
  pointwise [tile, k0_pay1, k0_pay2]
  rfl

/-- Row `r` of block `b` is row `256 b + r` of the whole. -/
theorem rowsAt_at (X : FVec Ideal S32768x4096 .f32) (y : Fin 32768) (l : Fin 64) (k : Fin 4096) :
    rowsAt (F := Ideal) X (blockOf (ix2 y l)) (ix2 (⟨y.val % 256, Nat.mod_lt _ (by decide)⟩ : Fin 256) k) = X (ix2 y k) := by
  refine congrArg X (funext fun a => ?_)
  match a with
  | ⟨0, _⟩ => exact Fin.ext (by show 256 * (y.val / 256) + 1 * (y.val % 256) = y.val; omega)
  | ⟨1, _⟩ => exact Fin.ext (by show 0 + 1 * k.val = k.val; omega)

/-- The whole result at a row and a column. -/
theorem outAll_at (p : Params Ideal) (X : FVec Ideal S32768x4096 .f32) (y : Fin 32768) (l : Fin 64) :
    outAll p X (ix2 y l) = prob (score (fun k => X (ix2 y k)) (fun k h => p.w1 (ix2 k h)) (fun h => p.b1 (ix2 0 h)) (fun h j => p.w2 (ix2 h j)) (fun j => p.b2 (ix2 0 j))) l := by
  have e : placeIn (ix2 y l) = ix2 (⟨y.val % 256, Nat.mod_lt _ (by decide)⟩ : Fin 256) l := by
    funext a
    match a with
    | ⟨0, _⟩ => rfl
    | ⟨1, _⟩ => rfl
  refine (congrArg (tile p (rowsAt X (blockOf (ix2 y l)))) e).trans ((tile_at p _ _ l).trans ?_)
  exact congrArg (fun x => prob (score x _ _ _ _) l) (funext fun k => rowsAt_at X y l k)

/-! ## The parameters, as launched -/

/-- The parameters' windows stay at their first block. -/
theorem first_block (a : Fin 2) : win0_0.index t0_0 a = 0 ∧ win0_1.index t0_0 a = 0 ∧ win0_2.index t0_0 a = 0 ∧ win0_3.index t0_0 a = 0 := by
  revert a; decide +kernel

section params
variable (m : (ℓ : Loc nD τ sig) → Buf (Elt Ideal) ℓ) (c : Dev nD)

theorem params_w1 (k : Fin 4096) (h : Fin 128) : (params m c).w1 (ix2 k h) = m ((c : Thread nD τ).loc main_arg1) (ix2 k h) := by
  show iblk m c 0 t0_0 (ix2 k h) = _
  blk_ext! [iblk, V, first_block]

theorem params_b1 (h : Fin 128) : (params m c).b1 (ix2 0 h) = m ((c : Thread nD τ).loc main_arg2) (ix1 h) := by
  show iblk m c 1 t0_0 (ix2 0 h) = _
  blk_ext! [iblk, V, first_block]

theorem params_w2 (h : Fin 128) (j : Fin 64) : (params m c).w2 (ix2 h j) = m ((c : Thread nD τ).loc main_arg3) (ix2 h j) := by
  show iblk m c 2 t0_0 (ix2 h j) = _
  blk_ext! [iblk, V, first_block]

theorem params_b2 (j : Fin 64) : (params m c).b2 (ix2 0 j) = m ((c : Thread nD τ).loc main_arg4) (ix1 j) := by
  show iblk m c 3 t0_0 (ix2 0 j) = _
  blk_ext! [iblk, V, first_block]

end params

/-! ## The reference's side -/

/-- The reference's scores of every row. -/
def refScores (X : FVec Ideal Cert.ReferenceIdeal.S32768x4096 .f32) (W1 : FVec Ideal Cert.ReferenceIdeal.S4096x128 .f32) (B1 : FVec Ideal Cert.ReferenceIdeal.S128 .f32)
    (W2 : FVec Ideal Cert.ReferenceIdeal.S128x64 .f32) (B2 : FVec Ideal Cert.ReferenceIdeal.S64 .f32) : FVec Ideal Cert.ReferenceIdeal.S32768x64 .f32 :=
  open Cert.ReferenceIdeal Cert.ReferenceIdeal.Gen in
  addf (Host.dotGeneral dot_S32768x128_S128x64_S32768x64_1_0_0_1_n_n none
      (maximumf (addf (Host.dotGeneral dot_S32768x4096_S4096x128_S32768x128_1_0_0_1_n_n none X W1)
          (broadcastInDim Cert.ReferenceIdeal.S32768x128 ![0, 1] bcast_S1x128_S32768x128_0_1 (broadcastInDim Cert.ReferenceIdeal.S1x128 ![1] bcast_S128_S1x128_1 B1)))
        (broadcastInDim Cert.ReferenceIdeal.S32768x128 ![] bcast_S_S32768x128 (constant Cert.ReferenceIdeal.S_ .f32 0x00000000#32))) W2)
    (broadcastInDim Cert.ReferenceIdeal.S32768x64 ![0, 1] bcast_S1x64_S32768x64_0_1 (broadcastInDim Cert.ReferenceIdeal.S1x64 ![1] bcast_S64_S1x64_1 B2))

/-- The greatest score of each row, as the reference folds it. -/
def refPeaks (L : FVec Ideal Cert.ReferenceIdeal.S32768x64 .f32) : FVec Ideal Cert.ReferenceIdeal.S32768 .f32 :=
  open Cert.ReferenceIdeal Cert.ReferenceIdeal.Gen in
  Host.reduce FloatOps.maximumf L (constant Cert.ReferenceIdeal.S_ .f32 0xFF800000#32) reducesTo_S32768x64_S32768_d1 h_S_

/-- The exponentials the reference takes of scores `L` less the rows' greatest `P`. -/
def refExps (L : FVec Ideal Cert.ReferenceIdeal.S32768x64 .f32) (P : FVec Ideal Cert.ReferenceIdeal.S32768 .f32) : FVec Ideal Cert.ReferenceIdeal.S32768x64 .f32 :=
  open Cert.ReferenceIdeal Cert.ReferenceIdeal.Gen in
  Host.exp (subf L (broadcastInDim Cert.ReferenceIdeal.S32768x64 ![0, 1] bcast_S32768x1_S32768x64_0_1 (broadcastInDim Cert.ReferenceIdeal.S32768x1 ![0] bcast_S32768_S32768x1_0
    (maximumf (broadcastInDim Cert.ReferenceIdeal.S32768 ![] bcast_S_S32768 (constant Cert.ReferenceIdeal.S_ .f32 0xFF800000#32)) P))))

/-- Exponentials `E` over their row sums, as the reference divides them. -/
def refShares (E : FVec Ideal Cert.ReferenceIdeal.S32768x64 .f32) : FVec Ideal Cert.ReferenceIdeal.S32768x64 .f32 :=
  open Cert.ReferenceIdeal Cert.ReferenceIdeal.Gen in
  Host.divf E (broadcastInDim Cert.ReferenceIdeal.S32768x64 ![0, 1] bcast_S32768x1_S32768x64_0_1 (broadcastInDim Cert.ReferenceIdeal.S32768x1 ![0] bcast_S32768_S32768x1_0
    (Host.reduceAdd E (constant Cert.ReferenceIdeal.S_ .f32 0x00000000#32) reducesTo_S32768x64_S32768_d1 h_S_)))

theorem refScores_at (X : FVec Ideal Cert.ReferenceIdeal.S32768x4096 .f32) (W1 : FVec Ideal Cert.ReferenceIdeal.S4096x128 .f32) (B1 : FVec Ideal Cert.ReferenceIdeal.S128 .f32)
    (W2 : FVec Ideal Cert.ReferenceIdeal.S128x64 .f32) (B2 : FVec Ideal Cert.ReferenceIdeal.S64 .f32) (y : Fin 32768) (l : Fin 64) :
    refScores X W1 B1 W2 B2 (ix2 y l)
      = score (fun k => X (ix2 y k)) (fun k h => W1 (ix2 k h)) (fun h => B1 (ix1 h)) (fun h j => W2 (ix2 h j)) (fun j => B2 (ix1 j)) l := by
  pointwise [refScores]
  rfl

theorem refPeaks_at (L : FVec Ideal Cert.ReferenceIdeal.S32768x64 .f32) (y : Fin 32768) : refPeaks L (ix1 y) = peak fun j => L (ix2 y j) := by
  unfold peak
  pointwise [refPeaks]

theorem refExps_at (L : FVec Ideal Cert.ReferenceIdeal.S32768x64 .f32) (P : FVec Ideal Cert.ReferenceIdeal.S32768 .f32) (y : Fin 32768) (l : Fin 64) :
    refExps L P (ix2 y l) = Ideal.exp (L (ix2 y l) - max (Ideal.ofBits .f32 0xFF800000#32) (P (ix1 y))) := by
  pointwise [refExps]

/-- The exponential at an expert: the fold's start does not show. -/
theorem refExps_peaks_at (L : FVec Ideal Cert.ReferenceIdeal.S32768x64 .f32) (y : Fin 32768) (l : Fin 64) :
    refExps L (refPeaks L) (ix2 y l) = Ideal.exp (L (ix2 y l) - peak fun j => L (ix2 y j)) := by
  rw [refExps_at, refPeaks_at, max_peak]

theorem refShares_at (E : FVec Ideal Cert.ReferenceIdeal.S32768x64 .f32) (y : Fin 32768) (l : Fin 64) :
    refShares E (ix2 y l) = Ideal.div (E (ix2 y l)) (∑ j, E (ix2 y j)) := by
  pointwise [refShares]

/-! ## They agree -/

/-- The reference's whole result. -/
def refOut (X : FVec Ideal Cert.ReferenceIdeal.S32768x4096 .f32) (W1 : FVec Ideal Cert.ReferenceIdeal.S4096x128 .f32) (B1 : FVec Ideal Cert.ReferenceIdeal.S128 .f32)
    (W2 : FVec Ideal Cert.ReferenceIdeal.S128x64 .f32) (B2 : FVec Ideal Cert.ReferenceIdeal.S64 .f32) : FVec Ideal Cert.ReferenceIdeal.S32768x64 .f32 :=
  refShares (refExps (refScores X W1 B1 W2 B2) (refPeaks (refScores X W1 B1 W2 B2)))

theorem refOut_at (X : FVec Ideal Cert.ReferenceIdeal.S32768x4096 .f32) (W1 : FVec Ideal Cert.ReferenceIdeal.S4096x128 .f32) (B1 : FVec Ideal Cert.ReferenceIdeal.S128 .f32)
    (W2 : FVec Ideal Cert.ReferenceIdeal.S128x64 .f32) (B2 : FVec Ideal Cert.ReferenceIdeal.S64 .f32) (y : Fin 32768) (l : Fin 64) :
    refOut X W1 B1 W2 B2 (ix2 y l)
      = prob (score (fun k => X (ix2 y k)) (fun k h => W1 (ix2 k h)) (fun h => B1 (ix1 h)) (fun h j => W2 (ix2 h j)) (fun j => B2 (ix1 j))) l := by
  unfold refOut prob
  rw [refShares_at]
  simp only [refExps_peaks_at, refScores_at]

/-- The kernel's whole result is the reference's term of the same arguments. -/
theorem out_eq (m : (ℓ : Loc nD τ sig) → Buf (Elt Ideal) ℓ) (c : Dev nD) :
    outAll (params m c) (V m c main_arg0)
      = refOut (m ((c : Thread nD τ).loc main_arg0)) (m ((c : Thread nD τ).loc main_arg1)) (m ((c : Thread nD τ).loc main_arg2))
          (m ((c : Thread nD τ).loc main_arg3)) (m ((c : Thread nD τ).loc main_arg4)) := by
  rw [V_main_arg0]
  funext i
  idx_vars i
  refine (outAll_at _ _ i0 i1).trans (Eq.trans ?_ (refOut_at _ _ _ _ _ i0 i1).symm)
  simp only [params_w1, params_b1, params_w2, params_b2]

end Cert.Proof.Router

end
-- ==== Proof.lean ====
/-
  The claims about the router kernel.

  The run is written once (`Cert.Proof.Router.run_main`), for any float values: both of the kernel's frames are read off it. The
  equality with the reference compares the run's result, `outAll`, with the reference's term, over the extended reals.
-/
module

public import proofs.«01_k».proof.Defs
public import proofs.«01_k».proof.Proof.Value
public import proofs.«01_k».proof.Proof.Gen.Kernel
public import proofs.«01_k».proof.Proof.Gen.Kernel.Skeleton
public import proofs.«01_k».proof.Proof.Gen.KernelIdeal
public import proofs.«01_k».proof.Proof.Gen.ReferenceIdeal
public import proofs.«01_k».proof.Proof.Gen.ReferenceIdeal.Run
public import Idealize.ShloMosaic.Lib.Claim
public import Idealize.ShloMosaic.Adequacy
public import Idealize.ShloMosaic.Init

@[expose] public section

noncomputable section

namespace Cert.Proof

open Idealize.ShloMosaic Idealize.SL.Sem

/-! ## The frames -/

/-- The kernel as printed and its idealization have one text: their kernels' tables agree, the body being one program. -/
theorem bodies_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => rfl

/-- So do their whole tables. -/
theorem tables_eq : Cert.Kernel.defs (F := Bits) = Cert.KernelIdeal.defs (F := Bits) := congrArg (Pipeline.defs _) bodies_eq

/-- The kernel as printed: the run of its idealization's text, at words. -/
theorem frame_kernel : Cert.quiescent_Kernel := by
  intro m ρ _
  have e : θ_run (Cert.Kernel.defs (F := Bits)) (onTc (τ := Cert.Kernel.τ) (Cert.Kernel.main (F := Bits)))
      = θ_run (Cert.KernelIdeal.defs (F := Bits)) (onTc (τ := Cert.KernelIdeal.τ) (Cert.KernelIdeal.main (F := Bits))) :=
    congrArg (fun D => θ_run D (onTc (τ := Cert.Kernel.τ) (Cert.Kernel.main (F := Bits)))) tables_eq
  rw [e]
  exact (θ_run Cert.KernelIdeal.defs _ _).mono (fun _ h => ⟨fun c => (h.1 c).2, h.2⟩) (Router.run_main (F := Bits) m ρ)

/-- The idealization's frame, of the same run. -/
theorem frame_ideal : Cert.quiescent_KernelIdeal := fun m ρ _ =>
  (θ_run Cert.KernelIdeal.defs _ _).mono (fun _ h => ⟨fun c => (h.1 c).2, h.2⟩) (Router.run_main (F := Ideal) m ρ)

/-- The reference writes no argument, and it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-! ## The value -/

/-- Over the extended reals the kernel's result is the reference's: the shared value is the reference's term of the
    kernel's arguments. -/
theorem algebraic : Cert.algebraic_KernelIdeal_ReferenceIdeal := by
  intro m ρ m' ρ' _ hagree
  refine ⟨fun c => Router.outAll (Router.params m c) (Cert.KernelIdeal.Gen.V m c Cert.KernelIdeal.main_arg0),
    (θ_run Cert.KernelIdeal.defs _ _).mono (fun _ h c => h.1 c) (Router.run_main (F := Ideal) m ρ),
    (θ_run Cert.ReferenceIdeal.defs _ _).mono (fun _ h c => ⟨(h c).1.trans ?_, (h c).2⟩) (Cert.ReferenceIdeal.Value.run (F := Ideal) m' ρ')⟩
  obtain ⟨h0, h1, h2, h3, h4⟩ := hagree c
  rw [h0, h1, h2, h3, h4]
  exact (Router.out_eq m c).symm

/-- All the claims together. -/
theorem claim : Cert.Claim :=
  ⟨Cert.Kernel.Gen.facts, Cert.KernelIdeal.Gen.facts, Cert.ReferenceIdeal.Gen.facts,
    frame_kernel, frame_ideal, frame_reference, trivial, algebraic⟩

end Cert.Proof

end
